-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pack.Statement Cert.KernelIdeal.S64x80
  ∧ IdealRules.bf16_pack.Statement Cert.KernelIdeal.S48x64
  ∧ IdealRules.named_const.Statement Cert.KernelIdeal.κ "score_scale" .f32 0x3E16C740#32 (((Real.sqrt 96)⁻¹ * (Real.log 2)⁻¹ : ℝ) : EReal)
  ∧ IdealRules.bf16_pack.Statement Cert.KernelIdeal.S16x16x512
  ∧ IdealRules.bf16_pack.Statement Cert.KernelIdeal.S64x512

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x20x96 : Shape := ⟨4, ![4, 512, 20, 96]⟩
abbrev S4x512x20 : Shape := ⟨3, ![4, 512, 20]⟩
abbrev S4x512x12x96 : Shape := ⟨4, ![4, 512, 12, 96]⟩
abbrev S4x512x12 : Shape := ⟨3, ![4, 512, 12]⟩
abbrev S20x16 : Shape := ⟨2, ![20, 16]⟩
abbrev S16x12 : Shape := ⟨2, ![16, 12]⟩
abbrev S_ : Shape := ⟨0, ![]⟩

class Facts : Prop where
  natLt_8_32 : 8 < 32
  bcast_S_S4x512x20x96 : S_.BroadcastsInDim S4x512x20x96 (![] : Fin 0 → Fin S4x512x20x96.rank)
  reducesTo_S4x512x20x96_S_d0_1_2_3 : S4x512x20x96.ReducesTo [0, 1, 2, 3] S_
  h_S_ : 0 < S_.numel
  bcast_S_S4x512x20 : S_.BroadcastsInDim S4x512x20 (![] : Fin 0 → Fin S4x512x20.rank)
  reducesTo_S4x512x20_S_d0_1_2 : S4x512x20.ReducesTo [0, 1, 2] S_
  bcast_S_S20x16 : S_.BroadcastsInDim S20x16 (![] : Fin 0 → Fin S20x16.rank)
  reducesTo_S20x16_S_d0_1 : S20x16.ReducesTo [0, 1] S_
  bcast_S_S16x12 : S_.BroadcastsInDim S16x12 (![] : Fin 0 → Fin S16x12.rank)
  reducesTo_S16x12_S_d0_1 : S16x12.ReducesTo [0, 1] S_

variable [Facts]

def fn_part2 {F : FTy → Type} [FloatOps F] (main_arg7 : FVec F S16x12 .f32) (main_v28 : IVec S_ 1) (main_v31 : IVec S20x16 1) (main_v33 : IVec S20x16 1) : IVec S_ 1 :=
  let main_v34 : IVec S20x16 1 := andi main_v31 main_v33
  let main_c_12 : IVec S_ 1 := constantI S_ 1 1#1
  let main_v35 : IVec S_ 1 := (fun x v => Host.reduce IntOp.andi x v reducesTo_S20x16_S_d0_1 h_S_) main_v34 main_c_12
  let main_v36 : IVec S_ 1 := andi main_v28 main_v35
  let main_cst_13 : FVec F S_ .f32 := constant S_ .f32 0x7F800000#32
  let main_v37 : FVec F S_ .f32 := Host.negf main_cst_13
  let main_v38 : FVec F S16x12 .f32 := broadcastInDim S16x12 ![] bcast_S_S16x12 main_v37
  let main_v39 : IVec S16x12 1 := cmpf .olt main_v38 main_arg7
  let main_cst_14 : FVec F S_ .f32 := constant S_ .f32 0x7F800000#32
  let main_v40 : FVec F S16x12 .f32 := broadcastInDim S16x12 ![] bcast_S_S16x12 main_cst_14
  let main_v41 : IVec S16x12 1 := cmpf .olt main_arg7 main_v40
  let main_v42 : IVec S16x12 1 := andi main_v39 main_v41
  let main_c_15 : IVec S_ 1 := constantI S_ 1 1#1
  let main_v43 : IVec S_ 1 := (fun x v => Host.reduce IntOp.andi x v reducesTo_S16x12_S_d0_1 h_S_) main_v42 main_c_15
  let main_v44 : IVec S_ 1 := andi main_v36 main_v43
  main_v44

def fn_part1 {F : FTy → Type} [FloatOps F] (main_arg1 : FVec F S4x512x20 .f32) (main_arg3 : FVec F S4x512x20 .f32) (main_arg6 : FVec F S20x16 .f32) (main_arg7 : FVec F S16x12 .f32) (main_v12 : IVec S_ 1) (main_v15 : IVec S4x512x20 1) (main_cst_5 : FVec F S_ .f32) : IVec S_ 1 :=
  let main_v16 : FVec F S4x512x20 .f32 := broadcastInDim S4x512x20 ![] bcast_S_S4x512x20 main_cst_5
  let main_v17 : IVec S4x512x20 1 := cmpf .olt main_arg1 main_v16
  let main_v18 : IVec S4x512x20 1 := andi main_v15 main_v17
  let main_c_6 : IVec S_ 1 := constantI S_ 1 1#1
  let main_v19 : IVec S_ 1 := (fun x v => Host.reduce IntOp.andi x v reducesTo_S4x512x20_S_d0_1_2 h_S_) main_v18 main_c_6
  let main_v20 : IVec S_ 1 := andi main_v12 main_v19
  let main_cst_7 : FVec F S_ .f32 := constant S_ .f32 0x7F800000#32
  let main_v21 : FVec F S_ .f32 := Host.negf main_cst_7
  let main_v22 : FVec F S4x512x20 .f32 := broadcastInDim S4x512x20 ![] bcast_S_S4x512x20 main_v21
  let main_v23 : IVec S4x512x20 1 := cmpf .olt main_v22 main_arg3
  let main_cst_8 : FVec F S_ .f32 := constant S_ .f32 0x7F800000#32
  let main_v24 : FVec F S4x512x20 .f32 := broadcastInDim S4x512x20 ![] bcast_S_S4x512x20 main_cst_8
  let main_v25 : IVec S4x512x20 1 := cmpf .olt main_arg3 main_v24
  let main_v26 : IVec S4x512x20 1 := andi main_v23 main_v25
  let main_c_9 : IVec S_ 1 := constantI S_ 1 1#1
  let main_v27 : IVec S_ 1 := (fun x v => Host.reduce IntOp.andi x v reducesTo_S4x512x20_S_d0_1_2 h_S_) main_v26 main_c_9
  let main_v28 : IVec S_ 1 := andi main_v20 main_v27
  let main_cst_10 : FVec F S_ .f32 := constant S_ .f32 0x7F800000#32
  let main_v29 : FVec F S_ .f32 := Host.negf main_cst_10
  let main_v30 : FVec F S20x16 .f32 := broadcastInDim S20x16 ![] bcast_S_S20x16 main_v29
  let main_v31 : IVec S20x16 1 := cmpf .olt main_v30 main_arg6
  let main_cst_11 : FVec F S_ .f32 := constant S_ .f32 0x7F800000#32
  let main_v32 : FVec F S20x16 .f32 := broadcastInDim S20x16 ![] bcast_S_S20x16 main_cst_11
  let main_v33 : IVec S20x16 1 := cmpf .olt main_arg6 main_v32
  fn_part2 (F := F) main_arg7 main_v28 main_v31 main_v33

def fn {F : FTy → Type} [FloatOps F] (main_arg0 : IVec S4x512x20x96 8) (main_arg1 : FVec F S4x512x20 .f32) (main_arg2 : IVec S4x512x20x96 8) (main_arg3 : FVec F S4x512x20 .f32) (main_arg4 : FVec F S4x512x12x96 .fp8e4m3) (main_arg5 : FVec F S4x512x12 .f32) (main_arg6 : FVec F S20x16 .f32) (main_arg7 : FVec F S16x12 .f32) : IVec S_ 1 :=
  let main_v0 : IVec S4x512x20x96 32 := (extui 32 · natLt_8_32) main_arg0
  let main_v1 : IVec S4x512x20x96 32 := (extui 32 · natLt_8_32) main_arg2
  let main_c : IVec S_ 32 := constantI S_ 32 127#32
  let main_v2 : IVec S4x512x20x96 32 := broadcastInDim S4x512x20x96 ![] bcast_S_S4x512x20x96 main_c
  let main_v3 : IVec S4x512x20x96 32 := andi main_v0 main_v2
  let main_c_0 : IVec S_ 32 := constantI S_ 32 127#32
  let main_v4 : IVec S4x512x20x96 32 := broadcastInDim S4x512x20x96 ![] bcast_S_S4x512x20x96 main_c_0
  let main_v5 : IVec S4x512x20x96 1 := cmpi .ne main_v3 main_v4
  let main_c_1 : IVec S_ 1 := constantI S_ 1 1#1
  let main_v6 : IVec S_ 1 := (fun x v => Host.reduce IntOp.andi x v reducesTo_S4x512x20x96_S_d0_1_2_3 h_S_) main_v5 main_c_1
  let main_c_2 : IVec S_ 32 := constantI S_ 32 127#32
  let main_v7 : IVec S4x512x20x96 32 := broadcastInDim S4x512x20x96 ![] bcast_S_S4x512x20x96 main_c_2
  let main_v8 : IVec S4x512x20x96 32 := andi main_v1 main_v7
  let main_c_3 : IVec S_ 32 := constantI S_ 32 127#32
  let main_v9 : IVec S4x512x20x96 32 := broadcastInDim S4x512x20x96 ![] bcast_S_S4x512x20x96 main_c_3
  let main_v10 : IVec S4x512x20x96 1 := cmpi .ne main_v8 main_v9
  let main_c_4 : IVec S_ 1 := constantI S_ 1 1#1
  let main_v11 : IVec S_ 1 := (fun x v => Host.reduce IntOp.andi x v reducesTo_S4x512x20x96_S_d0_1_2_3 h_S_) main_v10 main_c_4
  let main_v12 : IVec S_ 1 := andi main_v6 main_v11
  let main_cst : FVec F S_ .f32 := constant S_ .f32 0x7F800000#32
  let main_v13 : FVec F S_ .f32 := Host.negf main_cst
  let main_v14 : FVec F S4x512x20 .f32 := broadcastInDim S4x512x20 ![] bcast_S_S4x512x20 main_v13
  let main_v15 : IVec S4x512x20 1 := cmpf .olt main_v14 main_arg1
  let main_cst_5 : FVec F S_ .f32 := constant S_ .f32 0x7F800000#32
  fn_part1 (F := F) main_arg1 main_arg3 main_arg6 main_arg7 main_v12 main_v15 main_cst_5
-- ==== Kernel.lean ====
abbrev S4x512x20x96 : Shape := ⟨4, ![4, 512, 20, 96]⟩
abbrev S4x512x20 : Shape := ⟨3, ![4, 512, 20]⟩
abbrev S4x512x12x96 : Shape := ⟨4, ![4, 512, 12, 96]⟩
abbrev S4x512x12 : Shape := ⟨3, ![4, 512, 12]⟩
abbrev S20x16 : Shape := ⟨2, ![20, 16]⟩
abbrev S16x12 : Shape := ⟨2, ![16, 12]⟩
abbrev S_ : Shape := ⟨0, ![]⟩
abbrev S4x512x20x128 : Shape := ⟨4, ![4, 512, 20, 128]⟩
abbrev S4x128x4x10x2x128 : Shape := ⟨6, ![4, 128, 4, 10, 2, 128]⟩
abbrev S4x10x128x2x4x128 : Shape := ⟨6, ![4, 10, 128, 2, 4, 128]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x1x1x2x1x2x1 : Shape := ⟨7, ![1, 1, 1, 2, 1, 2, 1]⟩
abbrev S4x10x128x2x4x1x128 : Shape := ⟨7, ![4, 10, 128, 2, 4, 1, 128]⟩
abbrev S4x10x128x2x4x2x128 : Shape := ⟨7, ![4, 10, 128, 2, 4, 2, 128]⟩
abbrev S4x10x1024x256 : Shape := ⟨4, ![4, 10, 1024, 256]⟩
abbrev S4x512x10x256 : Shape := ⟨4, ![4, 512, 10, 256]⟩
abbrev S4x10x512x256 : Shape := ⟨4, ![4, 10, 512, 256]⟩
abbrev S4x512x12x128 : Shape := ⟨4, ![4, 512, 12, 128]⟩
abbrev S4x512x6x256 : Shape := ⟨4, ![4, 512, 6, 256]⟩
abbrev S4x6x512x256 : Shape := ⟨4, ![4, 6, 512, 256]⟩
abbrev S4x128x4x10x2 : Shape := ⟨5, ![4, 128, 4, 10, 2]⟩
abbrev S4x10x128x2x4 : Shape := ⟨5, ![4, 10, 128, 2, 4]⟩
abbrev S4x10x1024x1 : Shape := ⟨4, ![4, 10, 1024, 1]⟩
abbrev S4x20x512 : Shape := ⟨3, ![4, 20, 512]⟩
abbrev S4x10x2x1x512 : Shape := ⟨5, ![4, 10, 2, 1, 512]⟩
abbrev S4x10x2x4x512 : Shape := ⟨5, ![4, 10, 2, 4, 512]⟩
abbrev S4x10x8x512 : Shape := ⟨4, ![4, 10, 8, 512]⟩
abbrev S4x12x512 : Shape := ⟨3, ![4, 12, 512]⟩
abbrev S4x6x2x1x512 : Shape := ⟨5, ![4, 6, 2, 1, 512]⟩
abbrev S4x6x2x4x512 : Shape := ⟨5, ![4, 6, 2, 4, 512]⟩
abbrev S4x6x8x512 : Shape := ⟨4, ![4, 6, 8, 512]⟩
abbrev S4x4 : Shape := ⟨2, ![4, 4]⟩
abbrev S16x20 : Shape := ⟨2, ![16, 20]⟩
abbrev S16x1x20x1 : Shape := ⟨4, ![16, 1, 20, 1]⟩
abbrev S1x4x1x4 : Shape := ⟨4, ![1, 4, 1, 4]⟩
abbrev S16x4x20x4 : Shape := ⟨4, ![16, 4, 20, 4]⟩
abbrev S64x80 : Shape := ⟨2, ![64, 80]⟩
abbrev S12x16 : Shape := ⟨2, ![12, 16]⟩
abbrev S12x1x16x1 : Shape := ⟨4, ![12, 1, 16, 1]⟩
abbrev S12x4x16x4 : Shape := ⟨4, ![12, 4, 16, 4]⟩
abbrev S48x64 : Shape := ⟨2, ![48, 64]⟩
abbrev S4x6x1024x256 : Shape := ⟨4, ![4, 6, 1024, 256]⟩
abbrev S1x10x128x256 : Shape := ⟨4, ![1, 10, 128, 256]⟩
abbrev S1x10x512x256 : Shape := ⟨4, ![1, 10, 512, 256]⟩
abbrev S1x6x512x256 : Shape := ⟨4, ![1, 6, 512, 256]⟩
abbrev S1x10x128x1 : Shape := ⟨4, ![1, 10, 128, 1]⟩
abbrev S1x10x8x512 : Shape := ⟨4, ![1, 10, 8, 512]⟩
abbrev S1x6x8x512 : Shape := ⟨4, ![1, 6, 8, 512]⟩
abbrev S1x6x128x256 : Shape := ⟨4, ![1, 6, 128, 256]⟩
abbrev S16x256x512 : Shape := ⟨3, ![16, 256, 512]⟩
abbrev S6x128x512 : Shape := ⟨3, ![6, 128, 512]⟩
abbrev S64x16 : Shape := ⟨2, ![64, 16]⟩
abbrev S64x256 : Shape := ⟨2, ![64, 256]⟩
abbrev S48x256 : Shape := ⟨2, ![48, 256]⟩
abbrev S16x16x512 : Shape := ⟨3, ![16, 16, 512]⟩
abbrev S1x1x128x256 : Shape := ⟨4, ![1, 1, 128, 256]⟩
abbrev S128x256 : Shape := ⟨2, ![128, 256]⟩
abbrev S1x1x512x256 : Shape := ⟨4, ![1, 1, 512, 256]⟩
abbrev S512x256 : Shape := ⟨2, ![512, 256]⟩
abbrev S128x512 : Shape := ⟨2, ![128, 512]⟩
abbrev S16x8x512 : Shape := ⟨3, ![16, 8, 512]⟩
abbrev S1x1x128x1 : Shape := ⟨4, ![1, 1, 128, 1]⟩
abbrev S128x1 : Shape := ⟨2, ![128, 1]⟩
abbrev S16x8x1 : Shape := ⟨3, ![16, 8, 1]⟩
abbrev S1x1x8x512 : Shape := ⟨4, ![1, 1, 8, 512]⟩
abbrev S8x512 : Shape := ⟨2, ![8, 512]⟩
abbrev S1x8x512 : Shape := ⟨3, ![1, 8, 512]⟩
abbrev S1x256x512 : Shape := ⟨3, ![1, 256, 512]⟩
abbrev S256x512 : Shape := ⟨2, ![256, 512]⟩
abbrev S64x512 : Shape := ⟨2, ![64, 512]⟩
abbrev S64 : Shape := ⟨1, ![64]⟩
abbrev S64x1 : Shape := ⟨2, ![64, 1]⟩
abbrev S48x512 : Shape := ⟨2, ![48, 512]⟩
abbrev S6x8x512 : Shape := ⟨3, ![6, 8, 512]⟩
abbrev S6x16x512 : Shape := ⟨3, ![6, 16, 512]⟩
abbrev S1x16x512 : Shape := ⟨3, ![1, 16, 512]⟩
abbrev S16x512 : Shape := ⟨2, ![16, 512]⟩
abbrev S2x8x512 : Shape := ⟨3, ![2, 8, 512]⟩
abbrev S1x128x512 : Shape := ⟨3, ![1, 128, 512]⟩
abbrev S4x6x128x2x4x2x128 : Shape := ⟨7, ![4, 6, 128, 2, 4, 2, 128]⟩
abbrev S4x6x128x1x4x1x96 : Shape := ⟨7, ![4, 6, 128, 1, 4, 1, 96]⟩
abbrev S4x6x128x4x96 : Shape := ⟨5, ![4, 6, 128, 4, 96]⟩
abbrev S4x6x128x4x1x96 : Shape := ⟨6, ![4, 6, 128, 4, 1, 96]⟩
abbrev S4x6x128x4x2x96 : Shape := ⟨6, ![4, 6, 128, 4, 2, 96]⟩
abbrev S4x128x4x6x2x96 : Shape := ⟨6, ![4, 128, 4, 6, 2, 96]⟩
abbrev S4x512x1152 : Shape := ⟨3, ![4, 512, 1152]⟩

abbrev nBuf : Space → Nat
  | .hbm => 85
  | .vmem => 18
  | .smem => 0
  | _ => 0

abbrev bufTy : (tb : Table) → Fin (tcTables nBuf tb) → BufTy
  | .hbm, ⟨0, _⟩ => ⟨S4x512x20x96, .i8⟩
  | .hbm, ⟨1, _⟩ => ⟨S4x512x20, .f32⟩
  | .hbm, ⟨2, _⟩ => ⟨S4x512x20x96, .i8⟩
  | .hbm, ⟨3, _⟩ => ⟨S4x512x20, .f32⟩
  | .hbm, ⟨4, _⟩ => ⟨S4x512x12x96, .fp8e4m3⟩
  | .hbm, ⟨5, _⟩ => ⟨S4x512x12, .f32⟩
  | .hbm, ⟨6, _⟩ => ⟨S20x16, .f32⟩
  | .hbm, ⟨7, _⟩ => ⟨S16x12, .f32⟩
  | .hbm, ⟨8, _⟩ => ⟨S4x512x20x96, .fp8e4m3⟩
  | .hbm, ⟨9, _⟩ => ⟨S4x512x20x96, .fp8e4m3⟩
  | .hbm, ⟨10, _⟩ => ⟨S_, .i8⟩
  | .hbm, ⟨11, _⟩ => ⟨S_, .fp8e4m3⟩
  | .hbm, ⟨12, _⟩ => ⟨S4x512x20x128, .fp8e4m3⟩
  | .hbm, ⟨13, _⟩ => ⟨S4x128x4x10x2x128, .fp8e4m3⟩
  | .hbm, ⟨14, _⟩ => ⟨S4x10x128x2x4x128, .fp8e4m3⟩
  | .hbm, ⟨15, _⟩ => ⟨S2, .i32⟩
  | .hbm, ⟨16, _⟩ => ⟨S2x1, .i32⟩
  | .hbm, ⟨17, _⟩ => ⟨S1x2, .i32⟩
  | .hbm, ⟨18, _⟩ => ⟨S2x2, .i32⟩
  | .hbm, ⟨19, _⟩ => ⟨S2x2, .i32⟩
  | .hbm, ⟨20, _⟩ => ⟨S2x2, .i1⟩
  | .hbm, ⟨21, _⟩ => ⟨S1x1x1x2x1x2x1, .i1⟩
  | .hbm, ⟨22, _⟩ => ⟨S4x10x128x2x4x1x128, .fp8e4m3⟩
  | .hbm, ⟨23, _⟩ => ⟨S4x10x128x2x4x2x128, .i1⟩
  | .hbm, ⟨24, _⟩ => ⟨S4x10x128x2x4x2x128, .fp8e4m3⟩
  | .hbm, ⟨25, _⟩ => ⟨S4x10x128x2x4x2x128, .fp8e4m3⟩
  | .hbm, ⟨26, _⟩ => ⟨S4x10x128x2x4x2x128, .fp8e4m3⟩
  | .hbm, ⟨27, _⟩ => ⟨S4x10x1024x256, .fp8e4m3⟩
  | .hbm, ⟨28, _⟩ => ⟨S4x512x20x128, .fp8e4m3⟩
  | .hbm, ⟨29, _⟩ => ⟨S4x512x10x256, .fp8e4m3⟩
  | .hbm, ⟨30, _⟩ => ⟨S4x10x512x256, .fp8e4m3⟩
  | .hbm, ⟨31, _⟩ => ⟨S4x512x12x128, .fp8e4m3⟩
  | .hbm, ⟨32, _⟩ => ⟨S4x512x6x256, .fp8e4m3⟩
  | .hbm, ⟨33, _⟩ => ⟨S4x6x512x256, .fp8e4m3⟩
  | .hbm, ⟨34, _⟩ => ⟨S4x128x4x10x2, .f32⟩
  | .hbm, ⟨35, _⟩ => ⟨S4x10x128x2x4, .f32⟩
  | .hbm, ⟨36, _⟩ => ⟨S4x10x1024x1, .f32⟩
  | .hbm, ⟨37, _⟩ => ⟨S4x20x512, .f32⟩
  | .hbm, ⟨38, _⟩ => ⟨S4x10x2x1x512, .f32⟩
  | .hbm, ⟨39, _⟩ => ⟨S4x10x2x4x512, .f32⟩
  | .hbm, ⟨40, _⟩ => ⟨S4x10x8x512, .f32⟩
  | .hbm, ⟨41, _⟩ => ⟨S4x12x512, .f32⟩
  | .hbm, ⟨42, _⟩ => ⟨S4x6x2x1x512, .f32⟩
  | .hbm, ⟨43, _⟩ => ⟨S4x6x2x4x512, .f32⟩
  | .hbm, ⟨44, _⟩ => ⟨S4x6x8x512, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S16x20, .f32⟩
  | .hbm, ⟨53, _⟩ => ⟨S16x1x20x1, .f32⟩
  | .hbm, ⟨54, _⟩ => ⟨S1x4x1x4, .f32⟩
  | .hbm, ⟨55, _⟩ => ⟨S16x4x20x4, .f32⟩
  | .hbm, ⟨56, _⟩ => ⟨S16x4x20x4, .f32⟩
  | .hbm, ⟨57, _⟩ => ⟨S16x4x20x4, .f32⟩
  | .hbm, ⟨58, _⟩ => ⟨S64x80, .f32⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S12x16, .f32⟩
  | .hbm, ⟨67, _⟩ => ⟨S12x1x16x1, .f32⟩
  | .hbm, ⟨68, _⟩ => ⟨S1x4x1x4, .f32⟩
  | .hbm, ⟨69, _⟩ => ⟨S12x4x16x4, .f32⟩
  | .hbm, ⟨70, _⟩ => ⟨S12x4x16x4, .f32⟩
  | .hbm, ⟨71, _⟩ => ⟨S12x4x16x4, .f32⟩
  | .hbm, ⟨72, _⟩ => ⟨S48x64, .f32⟩
  | .hbm, ⟨73, _⟩ => ⟨S4x6x1024x256, .f32⟩
  | .hbm, ⟨74, _⟩ => ⟨S4x6x128x2x4x2x128, .f32⟩
  | .hbm, ⟨75, _⟩ => ⟨S4x6x128x1x4x1x96, .f32⟩
  | .hbm, ⟨76, _⟩ => ⟨S4x6x128x4x96, .f32⟩
  | .hbm, ⟨77, _⟩ => ⟨S4x6x128x1x4x1x96, .f32⟩
  | .hbm, ⟨78, _⟩ => ⟨S4x6x128x4x96, .f32⟩
  | .hbm, ⟨79, _⟩ => ⟨S4x6x128x4x1x96, .f32⟩
  | .hbm, ⟨80, _⟩ => ⟨S4x6x128x4x1x96, .f32⟩
  | .hbm, ⟨81, _⟩ => ⟨S4x6x128x4x2x96, .f32⟩
  | .hbm, ⟨82, _⟩ => ⟨S4x128x4x6x2x96, .f32⟩
  | .hbm, ⟨83, _⟩ => ⟨S4x512x1152, .f32⟩
  | .hbm, ⟨84, _⟩ => ⟨S4x512x1152, .bf16⟩
  | .local _ .vmem, ⟨0, _⟩ => ⟨S1x10x128x256, .fp8e4m3⟩
  | .local _ .vmem, ⟨1, _⟩ => ⟨S1x10x128x256, .fp8e4m3⟩
  | .local _ .vmem, ⟨2, _⟩ => ⟨S1x10x512x256, .fp8e4m3⟩
  | .local _ .vmem, ⟨3, _⟩ => ⟨S1x10x512x256, .fp8e4m3⟩
  | .local _ .vmem, ⟨4, _⟩ => ⟨S1x6x512x256, .fp8e4m3⟩
  | .local _ .vmem, ⟨5, _⟩ => ⟨S1x6x512x256, .fp8e4m3⟩
  | .local _ .vmem, ⟨6, _⟩ => ⟨S1x10x128x1, .f32⟩
  | .local _ .vmem, ⟨7, _⟩ => ⟨S1x10x128x1, .f32⟩
  | .local _ .vmem, ⟨8, _⟩ => ⟨S1x10x8x512, .f32⟩
  | .local _ .vmem, ⟨9, _⟩ => ⟨S1x10x8x512, .f32⟩
  | .local _ .vmem, ⟨10, _⟩ => ⟨S1x6x8x512, .f32⟩
  | .local _ .vmem, ⟨11, _⟩ => ⟨S1x6x8x512, .f32⟩
  | .local _ .vmem, ⟨12, _⟩ => ⟨S64x80, .f32⟩
  | .local _ .vmem, ⟨13, _⟩ => ⟨S48x64, .f32⟩
  | .local _ .vmem, ⟨14, _⟩ => ⟨S1x6x128x256, .f32⟩
  | .local _ .vmem, ⟨15, _⟩ => ⟨S1x6x128x256, .f32⟩
  | .local _ .vmem, ⟨16, _⟩ => ⟨S16x256x512, .bf16⟩
  | .local _ .vmem, ⟨17, _⟩ => ⟨S6x128x512, .bf16⟩
  | _, _ => ⟨S4x512x20x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![4, 8], ![false, false]⟩

@[reducible] def k0_t1_loop : Scf.Loop 32 :=
  let c0_i32 : BitVec 32 := 0#32
  let c8_i32 : BitVec 32 := 8#32
  let v336 : BitVec 32 := Scalar.addi c0_i32 c8_i32
  let c1_i32 : BitVec 32 := 1#32
  ⟨c0_i32, v336, c1_i32⟩
def k0_off1 (k0_t1 : Fin k0_t1_loop.trips) (c0_i32_295 : BitVec 32) : Fin 3 → Nat :=
  let c2_i32 : BitVec 32 := 2#32
  let c0_i32 : BitVec 32 := 0#32
  let c1_i32 : BitVec 32 := 1#32
  let arg13 : BitVec 32 := Scf.iv c0_i32 c1_i32 k0_t1
  let v391 : BitVec 32 := Scalar.muli c2_i32 arg13
  let v392 : BitVec 32 := Scalar.addi v391 c0_i32_295
  let v393 : Index := Scalar.indexCast v392
  let c0_296 : Index := 0#32
  let c0_297 : Index := 0#32
  ![v393.toNat, 0, 0]
def k0_off2 (k0_t1 : Fin k0_t1_loop.trips) : Fin 3 → Nat :=
  let c0_330 : Index := 0#32
  let c0_i32 : BitVec 32 := 0#32
  let c1_i32 : BitVec 32 := 1#32
  let arg13 : BitVec 32 := Scf.iv c0_i32 c1_i32 k0_t1
  let c16_i32 : BitVec 32 := 16#32
  let v488 : BitVec 32 := Scalar.muli arg13 c16_i32
  let v489 : Index := Scalar.indexCast v488
  let c0_331 : Index := 0#32
  ![0, v489.toNat, 0]
def k0_off3 (k0_t1 : Fin k0_t1_loop.trips) : Fin 3 → Nat :=
  let c1_337 : Index := 1#32
  let c0_i32 : BitVec 32 := 0#32
  let c1_i32 : BitVec 32 := 1#32
  let arg13 : BitVec 32 := Scf.iv c0_i32 c1_i32 k0_t1
  let c16_i32_336 : BitVec 32 := 16#32
  let v503 : BitVec 32 := Scalar.muli arg13 c16_i32_336
  let v504 : Index := Scalar.indexCast v503
  let c0_338 : Index := 0#32
  ![1, v504.toNat, 0]
def k0_off4 (k0_t1 : Fin k0_t1_loop.trips) : Fin 3 → Nat :=
  let c2_344 : Index := 2#32
  let c0_i32 : BitVec 32 := 0#32
  let c1_i32 : BitVec 32 := 1#32
  let arg13 : BitVec 32 := Scf.iv c0_i32 c1_i32 k0_t1
  let c16_i32_343 : BitVec 32 := 16#32
  let v518 : BitVec 32 := Scalar.muli arg13 c16_i32_343
  let v519 : Index := Scalar.indexCast v518
  let c0_345 : Index := 0#32
  ![2, v519.toNat, 0]
def k0_off5 (k0_t1 : Fin k0_t1_loop.trips) : Fin 3 → Nat :=
  let c3_351 : Index := 3#32
  let c0_i32 : BitVec 32 := 0#32
  let c1_i32 : BitVec 32 := 1#32
  let arg13 : BitVec 32 := Scf.iv c0_i32 c1_i32 k0_t1
  let c16_i32_350 : BitVec 32 := 16#32
  let v533 : BitVec 32 := Scalar.muli arg13 c16_i32_350
  let v534 : Index := Scalar.indexCast v533
  let c0_352 : Index := 0#32
  ![3, v534.toNat, 0]
def k0_off6 (k0_t1 : Fin k0_t1_loop.trips) : Fin 3 → Nat :=
  let c4_358 : Index := 4#32
  let c0_i32 : BitVec 32 := 0#32
  let c1_i32 : BitVec 32 := 1#32
  let arg13 : BitVec 32 := Scf.iv c0_i32 c1_i32 k0_t1
  let c16_i32_357 : BitVec 32 := 16#32
  let v548 : BitVec 32 := Scalar.muli arg13 c16_i32_357
  let v549 : Index := Scalar.indexCast v548
  let c0_359 : Index := 0#32
  ![4, v549.toNat, 0]
def k0_off7 (k0_t1 : Fin k0_t1_loop.trips) : Fin 3 → Nat :=
  let c5_365 : Index := 5#32
  let c0_i32 : BitVec 32 := 0#32
  let c1_i32 : BitVec 32 := 1#32
  let arg13 : BitVec 32 := Scf.iv c0_i32 c1_i32 k0_t1
  let c16_i32_364 : BitVec 32 := 16#32
  let v563 : BitVec 32 := Scalar.muli arg13 c16_i32_364
  let v564 : Index := Scalar.indexCast v563
  let c0_366 : Index := 0#32
  ![5, v564.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x10x128x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x512x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x512x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x10x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S64x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S48x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x6x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "score_scale" => some (((Real.sqrt 96)⁻¹ * (Real.log 2)⁻¹ : ℝ) : EReal)
  | _ => none
-- ==== ReferenceIdeal.lean ====
abbrev S4x512x20x96 : Shape := ⟨4, ![4, 512, 20, 96]⟩
abbrev S4x512x20 : Shape := ⟨3, ![4, 512, 20]⟩
abbrev S4x512x12x96 : Shape := ⟨4, ![4, 512, 12, 96]⟩
abbrev S4x512x12 : Shape := ⟨3, ![4, 512, 12]⟩
abbrev S20x16 : Shape := ⟨2, ![20, 16]⟩
abbrev S16x12 : Shape := ⟨2, ![16, 12]⟩
abbrev S_ : Shape := ⟨0, ![]⟩
abbrev S4x20x512 : Shape := ⟨3, ![4, 20, 512]⟩
abbrev S4x20x512x1 : Shape := ⟨4, ![4, 20, 512, 1]⟩
abbrev S4x20x1x512 : Shape := ⟨4, ![4, 20, 1, 512]⟩
abbrev S4x12x512 : Shape := ⟨3, ![4, 12, 512]⟩
abbrev S4x12x1x512 : Shape := ⟨4, ![4, 12, 1, 512]⟩
abbrev S4x20x512x512 : Shape := ⟨4, ![4, 20, 512, 512]⟩
abbrev S16x4x512x512 : Shape := ⟨4, ![16, 4, 512, 512]⟩
abbrev S4x16x512x512 : Shape := ⟨4, ![4, 16, 512, 512]⟩
abbrev S4x16x512 : Shape := ⟨3, ![4, 16, 512]⟩
abbrev S4x16x512x1 : Shape := ⟨4, ![4, 16, 512, 1]⟩
abbrev S12x4x512x512 : Shape := ⟨4, ![12, 4, 512, 512]⟩
abbrev S4x12x512x512 : Shape := ⟨4, ![4, 12, 512, 512]⟩
abbrev S4x12x96x512 : Shape := ⟨4, ![4, 12, 96, 512]⟩
abbrev S4x512x1152 : Shape := ⟨3, ![4, 512, 1152]⟩

abbrev nBuf : Space → Nat
  | .hbm => 55
  | .vmem => 6
  | .smem => 0
  | _ => 0

abbrev bufTy : (tb : Table) → Fin (tcTables nBuf tb) → BufTy
  | .hbm, ⟨0, _⟩ => ⟨S4x512x20x96, .i8⟩
  | .hbm, ⟨1, _⟩ => ⟨S4x512x20, .f32⟩
  | .hbm, ⟨2, _⟩ => ⟨S4x512x20x96, .i8⟩
  | .hbm, ⟨3, _⟩ => ⟨S4x512x20, .f32⟩
  | .hbm, ⟨4, _⟩ => ⟨S4x512x12x96, .fp8e4m3⟩
  | .hbm, ⟨5, _⟩ => ⟨S4x512x12, .f32⟩
  | .hbm, ⟨6, _⟩ => ⟨S20x16, .f32⟩
  | .hbm, ⟨7, _⟩ => ⟨S16x12, .f32⟩
  | .hbm, ⟨8, _⟩ => ⟨S4x512x20x96, .fp8e4m3⟩
  | .hbm, ⟨9, _⟩ => ⟨S4x512x20x96, .fp8e4m3⟩
  | .hbm, ⟨10, _⟩ => ⟨S4x512x20x96, .f32⟩
  | .hbm, ⟨11, _⟩ => ⟨S4x512x20x96, .f32⟩
  | .hbm, ⟨12, _⟩ => ⟨S4x512x12x96, .bf16⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x20x512, .f32⟩
  | .hbm, ⟨18, _⟩ => ⟨S4x20x512x1, .f32⟩
  | .hbm, ⟨19, _⟩ => ⟨S4x20x512, .f32⟩
  | .hbm, ⟨20, _⟩ => ⟨S4x20x1x512, .f32⟩
  | .hbm, ⟨21, _⟩ => ⟨S4x12x512, .f32⟩
  | .hbm, ⟨22, _⟩ => ⟨S4x12x1x512, .f32⟩
  | .hbm, ⟨23, _⟩ => ⟨S4x20x512x512, .f32⟩
  | .hbm, ⟨24, _⟩ => ⟨S4x20x512x512, .f32⟩
  | .hbm, ⟨25, _⟩ => ⟨S4x20x512x512, .f32⟩
  | .hbm, ⟨26, _⟩ => ⟨S4x20x512x512, .f32⟩
  | .hbm, ⟨27, _⟩ => ⟨S4x20x512x512, .f32⟩
  | .hbm, ⟨28, _⟩ => ⟨S4x20x512x512, .f32⟩
  | .hbm, ⟨29, _⟩ => ⟨S4x20x512x512, .f32⟩
  | .hbm, ⟨30, _⟩ => ⟨S16x4x512x512, .f32⟩
  | .hbm, ⟨31, _⟩ => ⟨S4x16x512x512, .f32⟩
  | .hbm, ⟨32, _⟩ => ⟨S_, .f32⟩
  | .hbm, ⟨33, _⟩ => ⟨S4x16x512, .f32⟩
  | .hbm, ⟨34, _⟩ => ⟨S_, .f32⟩
  | .hbm, ⟨35, _⟩ => ⟨S4x16x512, .f32⟩
  | .hbm, ⟨36, _⟩ => ⟨S4x16x512, .f32⟩
  | .hbm, ⟨37, _⟩ => ⟨S4x16x512x1, .f32⟩
  | .hbm, ⟨38, _⟩ => ⟨S4x16x512x512, .f32⟩
  | .hbm, ⟨39, _⟩ => ⟨S4x16x512x512, .f32⟩
  | .hbm, ⟨40, _⟩ => ⟨S4x16x512x512, .f32⟩
  | .hbm, ⟨41, _⟩ => ⟨S_, .f32⟩
  | .hbm, ⟨42, _⟩ => ⟨S4x16x512, .f32⟩
  | .hbm, ⟨43, _⟩ => ⟨S4x16x512x1, .f32⟩
  | .hbm, ⟨44, _⟩ => ⟨S4x16x512x512, .f32⟩
  | .hbm, ⟨45, _⟩ => ⟨S4x16x512x512, .f32⟩
  | .hbm, ⟨46, _⟩ => ⟨S12x4x512x512, .f32⟩
  | .hbm, ⟨47, _⟩ => ⟨S4x12x512x512, .f32⟩
  | .hbm, ⟨48, _⟩ => ⟨S4x12x512x512, .f32⟩
  | .hbm, ⟨49, _⟩ => ⟨S4x12x512x512, .f32⟩
  | .hbm, ⟨50, _⟩ => ⟨S4x12x512x512, .bf16⟩
  | .hbm, ⟨51, _⟩ => ⟨S4x12x96x512, .f32⟩
  | .hbm, ⟨52, _⟩ => ⟨S4x512x12x96, .f32⟩
  | .hbm, ⟨53, _⟩ => ⟨S4x512x1152, .f32⟩
  | .hbm, ⟨54, _⟩ => ⟨S4x512x1152, .bf16⟩
  | .local _ .vmem, ⟨0, _⟩ => ⟨S4x512x20x96, .fp8e4m3⟩
  | .local _ .vmem, ⟨1, _⟩ => ⟨S4x512x20x96, .fp8e4m3⟩
  | .local _ .vmem, ⟨2, _⟩ => ⟨S4x512x12x96, .fp8e4m3⟩
  | .local _ .vmem, ⟨3, _⟩ => ⟨S4x512x20x96, .f32⟩
  | .local _ .vmem, ⟨4, _⟩ => ⟨S4x512x20x96, .f32⟩
  | .local _ .vmem, ⟨5, _⟩ => ⟨S4x512x12x96, .bf16⟩
  | _, _ => ⟨S4x512x20x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x512x20x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x20x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x12x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x20x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x20x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x12x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Maths.lean ====
/-
  Extended-real arithmetic used by the value proof: sums that run over padded positions, values that are real numbers,
  and the agreement of the base-two softmax of `l / log 2` with the natural softmax of `l`.
-/
module

public import Idealize.ShloMosaic.PureOps.Ideal
public import Idealize.ShloMosaic.Lib.IdealHost

@[expose] public section

noncomputable section

open Idealize.ShloMosaic

namespace Cert.Maths

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

/-- A real number minus itself is zero (which fails at the infinities). -/
theorem IsReal.sub_self {x : EReal} (hx : IsReal x) : x - x = 0 := by
  obtain ⟨a, rfl⟩ := hx
  rw [← EReal.coe_sub, _root_.sub_self, EReal.coe_zero]

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {n : ℕ} {f : Fin n → EReal} (h : ∀ i, IsReal (f i)) : IsReal (∑ i, f i) := by
  choose r hr using h
  exact ⟨∑ i, r i, by rw [← sum_coe]; exact Finset.sum_congr rfl fun i _ => hr i⟩

/-- A real factor comes out of a sum of real numbers. -/
theorem sum_mul_real {n : ℕ} {f : Fin n → EReal} (h : ∀ i, IsReal (f i)) (r : ℝ) : ∑ i, f i * (r : EReal) = (∑ i, f i) * (r : EReal) := by
  choose g hg using h
  simp only [hg, ← EReal.coe_mul, sum_coe, Finset.sum_mul]

/-- A sum whose terms vanish from position `m` on is the sum of the first `m` terms. -/
theorem sum_lt {m n : ℕ} (h : m ≤ n) (f : Fin n → EReal) (g : Fin m → EReal) (h1 : ∀ k : Fin m, f (Fin.castLE h k) = g k)
    (h2 : ∀ k : Fin n, m ≤ k.val → f k = 0) : ∑ k, f k = ∑ k, g k := by
  symm
  refine Fintype.sum_of_injective (Fin.castLE h) (Fin.castLE_injective h) g f (fun k hk => h2 k ?_) (fun k => (h1 k).symm)
  by_contra hlt
  exact hk ⟨⟨k.val, by omega⟩, rfl⟩

/-- A sum over positions `a * 4 + b` of which only those with `b = e` carry a term. -/
theorem sum_eye {m : ℕ} (n : ℕ) (hn : n = m * 4) (f : Fin n → EReal) (g : Fin m → EReal) (e : Fin 4)
    (h1 : ∀ k : Fin m, f ⟨k.val * 4 + e.val, by omega⟩ = g k)
    (h2 : ∀ k : Fin n, k.val % 4 ≠ e.val → f k = 0) : ∑ k, f k = ∑ k, g k := by
  symm
  refine Fintype.sum_of_injective (fun k : Fin m => (⟨k.val * 4 + e.val, by omega⟩ : Fin n)) ?_ g f (fun k hk => h2 k ?_)
    (fun k => (h1 k).symm)
  · intro a b hab
    have := congrArg Fin.val hab
    simp only at this
    exact Fin.ext (by omega)
  · intro he
    exact hk ⟨⟨k.val / 4, by omega⟩, Fin.ext (by simp only; omega)⟩

/-- A sum over positions `a * w + d` (two groups of `w`) of which only the first `m` of group `e` carry a term. -/
theorem sum_half {m : ℕ} (hm : m ≤ 128) (f : Fin 256 → EReal) (g : Fin m → EReal) (e : Fin 2)
    (h1 : ∀ k : Fin m, f ⟨e.val * 128 + k.val, by omega⟩ = g k)
    (h2 : ∀ k : Fin 256, ¬ (k.val / 128 = e.val ∧ k.val % 128 < m) → f k = 0) : ∑ k, f k = ∑ k, g k := by
  symm
  refine Fintype.sum_of_injective (fun k : Fin m => (⟨e.val * 128 + k.val, by omega⟩ : Fin 256)) ?_ g f (fun k hk => h2 k ?_)
    (fun k => (h1 k).symm)
  · intro a b hab
    have := congrArg Fin.val hab
    simp only at this
    exact Fin.ext (by omega)
  · rintro ⟨h3, h4⟩
    exact hk ⟨⟨k.val % 128, h4⟩, Fin.ext (by simp only; omega)⟩

/-- The greatest of finitely many real numbers, as the fold from `⊥` the programs compute. -/
theorem fold_max {n : ℕ} (r : Fin n → ℝ) (i : Fin n) (hi : ∀ j, r j ≤ r i) :
    Finset.univ.fold max (⊥ : EReal) (fun j => ((r j : ℝ) : EReal)) = (r i : EReal) := by
  refine le_antisymm ?_ ?_
  · rw [Finset.fold_max_le]
    exact ⟨bot_le, fun j _ => EReal.coe_le_coe_iff.mpr (hi j)⟩
  · rw [Finset.le_fold_max]
    exact Or.inr ⟨i, Finset.mem_univ i, le_rfl⟩

/-- The base-two softmax of `r / log 2`, normalised by a reciprocal, is the natural softmax of `r`, normalised by a quotient;
    and it is a real number. -/
theorem softmax_eq {n : ℕ} (hn : 0 < n) (r : Fin n → ℝ) (j : Fin n) :
    Ideal.exp2 (((r j * (Real.log 2)⁻¹ : ℝ) : EReal) - Finset.univ.fold max (⊥ : EReal) (fun k => ((r k * (Real.log 2)⁻¹ : ℝ) : EReal)))
        * Ideal.div 1 (∑ k, Ideal.exp2 (((r k * (Real.log 2)⁻¹ : ℝ) : EReal)
            - Finset.univ.fold max (⊥ : EReal) (fun k => ((r k * (Real.log 2)⁻¹ : ℝ) : EReal))))
      = Ideal.div (Ideal.exp ((r j : EReal) - Finset.univ.fold max (⊥ : EReal) (fun k => (r k : EReal))))
          (∑ k, Ideal.exp ((r k : EReal) - Finset.univ.fold max (⊥ : EReal) (fun k => (r k : EReal))))
    ∧ IsReal (Ideal.div (Ideal.exp ((r j : EReal) - Finset.univ.fold max (⊥ : EReal) (fun k => (r k : EReal))))
          (∑ k, Ideal.exp ((r k : EReal) - Finset.univ.fold max (⊥ : EReal) (fun k => (r k : EReal))))) := by
  haveI : Nonempty (Fin n) := ⟨⟨0, hn⟩⟩
  obtain ⟨i, hi⟩ := Finite.exists_max r
  have hlog : 0 < Real.log 2 := Real.log_pos (by norm_num)
  have hi' : ∀ k, r k * (Real.log 2)⁻¹ ≤ r i * (Real.log 2)⁻¹ := fun k =>
    mul_le_mul_of_nonneg_right (hi k) (inv_nonneg.mpr hlog.le)
  rw [fold_max r i hi, fold_max (fun k => r k * (Real.log 2)⁻¹) i hi']
  have he2 : ∀ k, Ideal.exp2 (((r k * (Real.log 2)⁻¹ : ℝ) : EReal) - ((r i * (Real.log 2)⁻¹ : ℝ) : EReal))
      = ((Real.exp (r k - r i) : ℝ) : EReal) := by
    intro k
    rw [← EReal.coe_sub, Ideal.exp2_coe]
    congr 1
    show (2 : ℝ) ^ (_ : ℝ) = _
    rw [Real.rpow_def_of_pos (by norm_num)]
    congr 1
    field_simp
  have he : ∀ k, Ideal.exp ((r k : EReal) - (r i : EReal)) = ((Real.exp (r k - r i) : ℝ) : EReal) := by
    intro k; rw [← EReal.coe_sub, Ideal.exp_coe]
  simp only [he2, he, sum_coe]
  have hpos : 0 < ∑ k, Real.exp (r k - r i) := Finset.sum_pos (fun k _ => Real.exp_pos _) Finset.univ_nonempty
  rw [Ideal.div_coe hpos.ne', Ideal.div_coe hpos.ne', one_mul]
  exact ⟨rfl, IsReal.mul (IsReal.coe _) (IsReal.coe _)⟩

end Cert.Maths

end
-- ==== Proof.Scores.lean ====
/-
  The scaled scores of one grid point, read at an index. The body computes them head pair by head pair, scales them by the
  query and key scales, and stores each pair's leading part and its two remainder parts in the stacked scratch. Over the
  extended reals the remainder parts vanish where the scores are real numbers.
-/
module

public import proofs.«01_k».proof.Proof.Gen.KernelIdeal.Frame
public import proofs.«01_k».proof.Proof.Maths
public import Idealize.ShloMosaic.Lib.Pipeline.ValueKit
public import Idealize.ShloMosaic.PureOps.Ideal
public import Idealize.ShloMosaic.Lib.Pointwise

@[expose] public section

set_option maxRecDepth 16384

noncomputable section

open Idealize.ShloMosaic Idealize.ShloMosaic.TcCoe Idealize.SL.Sem
open Cert.Maths

namespace Cert.KernelIdeal.Body

open Cert.KernelIdeal Cert.KernelIdeal.Gen

/-- The score scale the body multiplies the key scales by. -/
def kap : EReal := (((Real.sqrt 96)⁻¹ * (Real.log 2)⁻¹ : ℝ) : EReal)

theorem named_kap : Named.named (F := Ideal) Cert.KernelIdeal.κ "score_scale" (φ := .f32) 0x3E16C740#32 = kap :=
  IdealRules.named_const.ideal_named_scalar _ _ _ _ rfl

/-- The scaled score of query row `8 t + r % 8` of head pair `r / 8` against key `j`; `r = 4 h + i` runs over heads `h` and the
    four queries `i` of tile `t`. -/
def sc (x0 : Vec Ideal S1x10x128x256 .fp8e4m3) (x1 : Vec Ideal S1x10x512x256 .fp8e4m3) (x3 : Vec Ideal S1x10x128x1 .f32)
    (x4 : Vec Ideal S1x10x8x512 .f32) (t : Fin 16) (r : Fin 80) (j : Fin 512) : EReal :=
  (∑ x : Fin 256, x0 (ix4 0 ⟨r.val / 8, by omega⟩ ⟨t.val * 8 + r.val % 8, by omega⟩ x) * x1 (ix4 0 ⟨r.val / 8, by omega⟩ j x))
    * x3 (ix4 0 ⟨r.val / 8, by omega⟩ ⟨t.val * 8 + r.val % 8, by omega⟩ 0)
    * (x4 (ix4 0 ⟨r.val / 8, by omega⟩ ⟨r.val % 8, by omega⟩ j) * kap)

theorem sc_real {x0 : Vec Ideal S1x10x128x256 .fp8e4m3} {x1 : Vec Ideal S1x10x512x256 .fp8e4m3} {x3 : Vec Ideal S1x10x128x1 .f32}
    {x4 : Vec Ideal S1x10x8x512 .f32} (h0 : ∀ i, IsReal (x0 i)) (h1 : ∀ i, IsReal (x1 i)) (h3 : ∀ i, IsReal (x3 i))
    (h4 : ∀ i, IsReal (x4 i)) (t : Fin 16) (r : Fin 80) (j : Fin 512) : IsReal (sc x0 x1 x3 x4 t r j) :=
  ((IsReal.sum fun x => (h0 _).mul (h1 _)).mul (h3 _)).mul ((h4 _).mul (IsReal.coe _))

/-- The scaled scores of two consecutive head pairs, stacked. -/
def pairV (q0 : Vec Ideal S1x1x128x256 .fp8e4m3) (k0 : Vec Ideal S1x1x512x256 .fp8e4m3) (qs0 : Vec Ideal S1x1x128x1 .f32)
    (ks0 : Vec Ideal S1x1x8x512 .f32) (q1 : Vec Ideal S1x1x128x256 .fp8e4m3) (k1 : Vec Ideal S1x1x512x256 .fp8e4m3)
    (qs1 : Vec Ideal S1x1x128x1 .f32) (ks1 : Vec Ideal S1x1x8x512 .f32) : FVec Ideal S16x16x512 .f32 :=
  k0_pay31 (k0_pay28 (k0_pay27 q0) k0 qs0 ks0) (k0_pay29 q1 k1 qs1) (k0_pay30 ks1)

theorem pairV_apply (q0 : Vec Ideal S1x1x128x256 .fp8e4m3) (k0 : Vec Ideal S1x1x512x256 .fp8e4m3) (qs0 : Vec Ideal S1x1x128x1 .f32)
    (ks0 : Vec Ideal S1x1x8x512 .f32) (q1 : Vec Ideal S1x1x128x256 .fp8e4m3) (k1 : Vec Ideal S1x1x512x256 .fp8e4m3)
    (qs1 : Vec Ideal S1x1x128x1 .f32) (ks1 : Vec Ideal S1x1x8x512 .f32) (x0 : Vec Ideal S1x10x128x256 .fp8e4m3)
    (x1 : Vec Ideal S1x10x512x256 .fp8e4m3) (x3 : Vec Ideal S1x10x128x1 .f32) (x4 : Vec Ideal S1x10x8x512 .f32) (m : Fin 5)
    (hq0 : ∀ r x, q0 (ix4 0 0 r x) = x0 (ix4 0 ⟨2 * m.val, by omega⟩ r x))
    (hk0 : ∀ r x, k0 (ix4 0 0 r x) = x1 (ix4 0 ⟨2 * m.val, by omega⟩ r x))
    (hqs0 : ∀ r, qs0 (ix4 0 0 r 0) = x3 (ix4 0 ⟨2 * m.val, by omega⟩ r 0))
    (hks0 : ∀ r x, ks0 (ix4 0 0 r x) = x4 (ix4 0 ⟨2 * m.val, by omega⟩ r x))
    (hq1 : ∀ r x, q1 (ix4 0 0 r x) = x0 (ix4 0 ⟨2 * m.val + 1, by omega⟩ r x))
    (hk1 : ∀ r x, k1 (ix4 0 0 r x) = x1 (ix4 0 ⟨2 * m.val + 1, by omega⟩ r x))
    (hqs1 : ∀ r, qs1 (ix4 0 0 r 0) = x3 (ix4 0 ⟨2 * m.val + 1, by omega⟩ r 0))
    (hks1 : ∀ r x, ks1 (ix4 0 0 r x) = x4 (ix4 0 ⟨2 * m.val + 1, by omega⟩ r x))
    (t i : Fin 16) (j : Fin 512) :
    pairV q0 k0 qs0 ks0 q1 k1 qs1 ks1 (ix3 t i j) = sc x0 x1 x3 x4 t ⟨16 * m.val + i.val, by omega⟩ j := by
  pointwise [pairV, k0_pay31, k0_pay28, k0_pay27, k0_pay29, k0_pay30]
  have hk : Named.named (F := Ideal) Cert.KernelIdeal.κ "score_scale" (φ := .f32) 1041680192#32 = kap := named_kap
  unfold sc
  split
  · rename_i h
    have e1 : (⟨(16 * m.val + i.val) / 8, by omega⟩ : Fin 10) = ⟨2 * m.val, by omega⟩ := Fin.ext (by simp only; omega)
    have e2 : (⟨t.val * 8 + (16 * m.val + i.val) % 8, by omega⟩ : Fin 128) = ⟨t.val * 8 + i.val, by omega⟩ :=
      Fin.ext (by simp only; omega)
    have e3 : (⟨(16 * m.val + i.val) % 8, by omega⟩ : Fin 8) = ⟨i.val, by omega⟩ := Fin.ext (by simp only; omega)
    simp only [e1, e2, e3, hq0, hk0, hqs0, hks0, hk]
  · rename_i h
    have e1 : (⟨(16 * m.val + i.val) / 8, by omega⟩ : Fin 10) = ⟨2 * m.val + 1, by omega⟩ := Fin.ext (by simp only; omega)
    have e2 : (⟨t.val * 8 + (16 * m.val + i.val) % 8, by omega⟩ : Fin 128) = ⟨t.val * 8 + (i.val - 8), by omega⟩ :=
      Fin.ext (by simp only; omega)
    have e3 : (⟨(16 * m.val + i.val) % 8, by omega⟩ : Fin 8) = ⟨i.val - 8, by omega⟩ := Fin.ext (by simp only; omega)
    simp only [e1, e2, e3, hq1, hk1, hqs1, hks1, hk]

/-- The leading part of a value split in three, as stored. -/
def hiV (p : FVec Ideal S16x16x512 .f32) : FVec Ideal S16x16x512 .bf16 :=
  shapeCast S16x16x512 (truncf .bf16 (extf .f32 (truncf .bf16 p)) bitsLt_bf16_f32) shapeCasts_S16x16x512_S16x16x512

/-- The first remainder part. -/
def midV (p : FVec Ideal S16x16x512 .f32) : FVec Ideal S16x16x512 .bf16 :=
  shapeCast S16x16x512 (truncf .bf16 (extf .f32 (truncf .bf16 (subf p (extf .f32 (truncf .bf16 p))))) bitsLt_bf16_f32)
    shapeCasts_S16x16x512_S16x16x512

/-- The second remainder part. -/
def loV (p : FVec Ideal S16x16x512 .f32) : FVec Ideal S16x16x512 .bf16 :=
  shapeCast S16x16x512 (truncf .bf16 (subf (subf p (extf .f32 (truncf .bf16 p)))
    (extf .f32 (truncf .bf16 (subf p (extf .f32 (truncf .bf16 p)))))) bitsLt_bf16_f32) shapeCasts_S16x16x512_S16x16x512

theorem hiV_apply (p : FVec Ideal S16x16x512 .f32) (y : S16x16x512.Idx) : hiV p y = p y := by
  pointwise [hiV]

theorem midV_apply (p : FVec Ideal S16x16x512 .f32) (y : S16x16x512.Idx) : midV p y = p y - p y := by
  pointwise [midV]

theorem loV_apply (p : FVec Ideal S16x16x512 .f32) (y : S16x16x512.Idx) : loV p y = p y - p y - (p y - p y) := by
  pointwise [loV]

section Scratch

variable (c : Dev nD)
  (a2 : Memref sig .tc .vmem S1x10x128x256 .fp8e4m3) (h2 : a2.IsWhole)
  (a3 : Memref sig .tc .vmem S1x10x512x256 .fp8e4m3) (h3 : a3.IsWhole)
  (a5 : Memref sig .tc .vmem S1x10x128x1 .f32) (h5 : a5.IsWhole)
  (a6 : Memref sig .tc .vmem S1x10x8x512 .f32) (h6 : a6.IsWhole)
  (x0 : Vec Ideal S1x10x128x256 .fp8e4m3) (x1 : Vec Ideal S1x10x512x256 .fp8e4m3)
  (x3 : Vec Ideal S1x10x128x1 .f32) (x4 : Vec Ideal S1x10x8x512 .f32)

theorem inbQ (n : Fin 10) : ∀ a, (![0, n.val, 0, 0] : Fin 4 → ℕ) a + S1x1x128x256.size a ≤ S1x10x128x256.size a := by
  have := n.isLt
  intro a; fin_cases a <;> simp <;> omega
theorem inbK (n : Fin 10) : ∀ a, (![0, n.val, 0, 0] : Fin 4 → ℕ) a + S1x1x512x256.size a ≤ S1x10x512x256.size a := by
  have := n.isLt
  intro a; fin_cases a <;> simp <;> omega
theorem inbQs (n : Fin 10) : ∀ a, (![0, n.val, 0, 0] : Fin 4 → ℕ) a + S1x1x128x1.size a ≤ S1x10x128x1.size a := by
  have := n.isLt
  intro a; fin_cases a <;> simp <;> omega
theorem inbKs (n : Fin 10) : ∀ a, (![0, n.val, 0, 0] : Fin 4 → ℕ) a + S1x1x8x512.size a ≤ S1x10x8x512.size a := by
  have := n.isLt
  intro a; fin_cases a <;> simp <;> omega

/-- The loads of head pair `n`. -/
def rdQ (n : Fin 10) : Vec Ideal S1x1x128x256 .fp8e4m3 :=
  View.readAt (Elt Ideal) a2.view (Rect.unit (s := S1x10x128x256) ![0, n.val, 0, 0] S1x1x128x256.size (inbQ n)).toLoadRect (h2.unread x0)
def rdK (n : Fin 10) : Vec Ideal S1x1x512x256 .fp8e4m3 :=
  View.readAt (Elt Ideal) a3.view (Rect.unit (s := S1x10x512x256) ![0, n.val, 0, 0] S1x1x512x256.size (inbK n)).toLoadRect (h3.unread x1)
def rdQs (n : Fin 10) : Vec Ideal S1x1x128x1 .f32 :=
  View.readAt (Elt Ideal) a5.view (Rect.unit (s := S1x10x128x1) ![0, n.val, 0, 0] S1x1x128x1.size (inbQs n)).toLoadRect (h5.unread x3)
def rdKs (n : Fin 10) : Vec Ideal S1x1x8x512 .f32 :=
  View.readAt (Elt Ideal) a6.view (Rect.unit (s := S1x10x8x512) ![0, n.val, 0, 0] S1x1x8x512.size (inbKs n)).toLoadRect (h6.unread x4)

theorem rdQ_apply (n : Fin 10) (r : Fin 128) (x : Fin 256) : rdQ a2 h2 x0 n (ix4 0 0 r x) = x0 (ix4 0 n r x) := by
  unfold rdQ
  rw [View.readAt_eq_ld, h2.read_unread]
  pointwise
theorem rdK_apply (n : Fin 10) (r : Fin 512) (x : Fin 256) : rdK a3 h3 x1 n (ix4 0 0 r x) = x1 (ix4 0 n r x) := by
  unfold rdK
  rw [View.readAt_eq_ld, h3.read_unread]
  pointwise
theorem rdQs_apply (n : Fin 10) (r : Fin 128) : rdQs a5 h5 x3 n (ix4 0 0 r 0) = x3 (ix4 0 n r 0) := by
  unfold rdQs
  rw [View.readAt_eq_ld, h5.read_unread]
  pointwise
theorem rdKs_apply (n : Fin 10) (r : Fin 8) (x : Fin 512) : rdKs a6 h6 x4 n (ix4 0 0 r x) = x4 (ix4 0 n r x) := by
  unfold rdKs
  rw [View.readAt_eq_ld, h6.read_unread]
  pointwise

/-- The stacked scores of head pairs `2 m` and `2 m + 1`, of the loads. -/
def prs (m : Fin 5) : FVec Ideal S16x16x512 .f32 :=
  pairV (rdQ a2 h2 x0 ⟨2 * m.val, by omega⟩) (rdK a3 h3 x1 ⟨2 * m.val, by omega⟩) (rdQs a5 h5 x3 ⟨2 * m.val, by omega⟩)
    (rdKs a6 h6 x4 ⟨2 * m.val, by omega⟩) (rdQ a2 h2 x0 ⟨2 * m.val + 1, by omega⟩) (rdK a3 h3 x1 ⟨2 * m.val + 1, by omega⟩)
    (rdQs a5 h5 x3 ⟨2 * m.val + 1, by omega⟩) (rdKs a6 h6 x4 ⟨2 * m.val + 1, by omega⟩)

theorem prs_apply (m : Fin 5) (t i : Fin 16) (j : Fin 512) :
    prs a2 h2 a3 h3 a5 h5 a6 h6 x0 x1 x3 x4 m (ix3 t i j) = sc x0 x1 x3 x4 t ⟨16 * m.val + i.val, by omega⟩ j :=
  pairV_apply _ _ _ _ _ _ _ _ x0 x1 x3 x4 m (fun r x => rdQ_apply ..) (fun r x => rdK_apply ..) (fun r => rdQs_apply ..)
    (fun r x => rdKs_apply ..) (fun r x => rdQ_apply ..) (fun r x => rdK_apply ..) (fun r => rdQs_apply ..)
    (fun r x => rdKs_apply ..) t i j

theorem inbS (n : Fin 16) : ∀ a, (![0, 16 * n.val, 0] : Fin 3 → ℕ) a + S16x16x512.size a ≤ S16x256x512.size a := by
  have := n.isLt
  intro a; fin_cases a <;> simp <;> omega

/-- A piece of the stacked scratch: rows `16 n` to `16 n + 15`. -/
def pc (n : Fin 16) (v : FVec Ideal S16x16x512 .bf16) : View.Piece (Elt Ideal) S16x256x512 .bf16 :=
  ⟨Rect.unit (s := S16x256x512) ![0, 16 * n.val, 0] S16x16x512.size (inbS n), v⟩

/-- The stores of the stacked scratch, last first. -/
theorem stores_eq : kernelRun0_A.sl.HS0_16 (F := Ideal) c a2 h2 a3 h3 a5 h5 a6 h6 x0 x1 x3 x4
    = [pc 14 (loV (prs a2 h2 a3 h3 a5 h5 a6 h6 x0 x1 x3 x4 4)), pc 9 (midV (prs a2 h2 a3 h3 a5 h5 a6 h6 x0 x1 x3 x4 4)),
      pc 4 (hiV (prs a2 h2 a3 h3 a5 h5 a6 h6 x0 x1 x3 x4 4)),
      pc 13 (loV (prs a2 h2 a3 h3 a5 h5 a6 h6 x0 x1 x3 x4 3)), pc 8 (midV (prs a2 h2 a3 h3 a5 h5 a6 h6 x0 x1 x3 x4 3)),
      pc 3 (hiV (prs a2 h2 a3 h3 a5 h5 a6 h6 x0 x1 x3 x4 3)),
      pc 12 (loV (prs a2 h2 a3 h3 a5 h5 a6 h6 x0 x1 x3 x4 2)), pc 7 (midV (prs a2 h2 a3 h3 a5 h5 a6 h6 x0 x1 x3 x4 2)),
      pc 2 (hiV (prs a2 h2 a3 h3 a5 h5 a6 h6 x0 x1 x3 x4 2)),
      pc 11 (loV (prs a2 h2 a3 h3 a5 h5 a6 h6 x0 x1 x3 x4 1)), pc 6 (midV (prs a2 h2 a3 h3 a5 h5 a6 h6 x0 x1 x3 x4 1)),
      pc 1 (hiV (prs a2 h2 a3 h3 a5 h5 a6 h6 x0 x1 x3 x4 1)),
      pc 10 (loV (prs a2 h2 a3 h3 a5 h5 a6 h6 x0 x1 x3 x4 0)), pc 5 (midV (prs a2 h2 a3 h3 a5 h5 a6 h6 x0 x1 x3 x4 0)),
      pc 0 (hiV (prs a2 h2 a3 h3 a5 h5 a6 h6 x0 x1 x3 x4 0)), pc 15 k0_pay26] := rfl

/-- The stacked scratch: the scaled scores in the first 80 rows, zero in the rest. -/
def scG (x0 : Vec Ideal S1x10x128x256 .fp8e4m3) (x1 : Vec Ideal S1x10x512x256 .fp8e4m3) (x3 : Vec Ideal S1x10x128x1 .f32)
    (x4 : Vec Ideal S1x10x8x512 .f32) : Vec Ideal S16x256x512 .bf16 :=
  fun y => if h : (y 1).val < 80 then sc x0 x1 x3 x4 (y 0) ⟨(y 1).val, h⟩ (y 2) else (0 : EReal)

theorem scG_lt (x0 : Vec Ideal S1x10x128x256 .fp8e4m3) (x1 : Vec Ideal S1x10x512x256 .fp8e4m3) (x3 : Vec Ideal S1x10x128x1 .f32)
    (x4 : Vec Ideal S1x10x8x512 .f32) (t : Fin 16) (r : Fin 256) (j : Fin 512) (h : r.val < 80) :
    scG x0 x1 x3 x4 (ix3 t r j) = sc x0 x1 x3 x4 t ⟨r.val, h⟩ j := dif_pos h

theorem scG_ge (x0 : Vec Ideal S1x10x128x256 .fp8e4m3) (x1 : Vec Ideal S1x10x512x256 .fp8e4m3) (x3 : Vec Ideal S1x10x128x1 .f32)
    (x4 : Vec Ideal S1x10x8x512 .f32) (t : Fin 16) (r : Fin 256) (j : Fin 512) (h : ¬ r.val < 80) :
    scG x0 x1 x3 x4 (ix3 t r j) = (0 : EReal) := dif_neg h

/-- A piece agrees with `G` where its payload does at every index of the block it covers. -/
theorem pc_of (n : Fin 16) (v : FVec Ideal S16x16x512 .bf16) (G : Vec Ideal S16x256x512 .bf16)
    (h : ∀ (t i : Fin 16) (j : Fin 512), v (ix3 t i j) = G (ix3 t ⟨16 * n.val + i.val, by omega⟩ j))
    (x : (pc n v).1.shape.Idx) : (pc n v).2 x = G ((pc n v).1.emb x) := by
  obtain ⟨t, i, j, rfl⟩ : ∃ (t i : Fin 16) (j : Fin 512), x = ix3 t i j := ⟨x 0, x 1, x 2, eq_ix3 x⟩
  refine (h t i j).trans (congrArg G ?_)
  funext a
  apply Fin.ext
  match a with
  | ⟨0, _⟩ => show t.val = 0 + 1 * t.val; omega
  | ⟨1, _⟩ => show 16 * n.val + i.val = 16 * n.val + 1 * i.val; omega
  | ⟨2, _⟩ => show j.val = 0 + 1 * j.val; omega

theorem mem_pc (n : Fin 16) (v : FVec Ideal S16x16x512 .bf16) (t : Fin 16) (r : Fin 256) (j : Fin 512) (h : r.val / 16 = n.val) :
    (ix3 t r j : S16x256x512.Idx) ∈ (pc n v).1.set := by
  show _ ∈ (Rect.unit (s := S16x256x512) ![0, 16 * n.val, 0] S16x16x512.size (inbS n)).set
  rw [Rect.mem_set_unit]
  intro a
  match a with
  | ⟨0, _⟩ => exact ⟨Nat.zero_le _, by show t.val < 0 + 16; omega⟩
  | ⟨1, _⟩ => exact ⟨by show 16 * n.val ≤ r.val; omega, by show r.val < 16 * n.val + 16; omega⟩
  | ⟨2, _⟩ => exact ⟨Nat.zero_le _, by show j.val < 0 + 512; omega⟩

variable (hx0 : ∀ i, IsReal (x0 i)) (hx1 : ∀ i, IsReal (x1 i)) (hx3 : ∀ i, IsReal (x3 i)) (hx4 : ∀ i, IsReal (x4 i))

include hx0 hx1 hx3 hx4 in
/-- The stacked scratch holds the scaled scores in its first 80 rows and zero in the rest. -/
theorem scratch_apply (y : S16x256x512.Idx) :
    View.canon (kernelRun0_A.sl.HS0_16 (F := Ideal) c a2 h2 a3 h3 a5 h5 a6 h6 x0 x1 x3 x4) y = scG x0 x1 x3 x4 y := by
  obtain ⟨t, r, j, rfl⟩ : ∃ (t : Fin 16) (r : Fin 256) (j : Fin 512), y = ix3 t r j := ⟨y 0, y 1, y 2, eq_ix3 y⟩
  rw [stores_eq]
  have hi : ∀ (n : Fin 16) (m : Fin 5), n.val = m.val → ∀ (t i : Fin 16) (j : Fin 512),
      hiV (prs a2 h2 a3 h3 a5 h5 a6 h6 x0 x1 x3 x4 m) (ix3 t i j) = (scG x0 x1 x3 x4) (ix3 t ⟨16 * n.val + i.val, by omega⟩ j) := by
    intro n m hm t i j
    rw [hiV_apply, prs_apply]
    obtain ⟨n, hn⟩ := n
    obtain rfl : n = m.val := hm
    exact (scG_lt x0 x1 x3 x4 t ⟨16 * m.val + i.val, by omega⟩ j (show 16 * m.val + i.val < 80 by omega)).symm
  have mid : ∀ (n : Fin 16) (m : Fin 5), 5 ≤ n.val → ∀ (t i : Fin 16) (j : Fin 512),
      midV (prs a2 h2 a3 h3 a5 h5 a6 h6 x0 x1 x3 x4 m) (ix3 t i j) = (scG x0 x1 x3 x4) (ix3 t ⟨16 * n.val + i.val, by omega⟩ j) := by
    intro n m hm t i j
    rw [midV_apply, prs_apply, (sc_real hx0 hx1 hx3 hx4 _ _ _).sub_self]
    exact (scG_ge x0 x1 x3 x4 t ⟨16 * n.val + i.val, by omega⟩ j (show ¬(16 * n.val + i.val < 80) by omega)).symm
  have lo : ∀ (n : Fin 16) (m : Fin 5), 5 ≤ n.val → ∀ (t i : Fin 16) (j : Fin 512),
      loV (prs a2 h2 a3 h3 a5 h5 a6 h6 x0 x1 x3 x4 m) (ix3 t i j) = (scG x0 x1 x3 x4) (ix3 t ⟨16 * n.val + i.val, by omega⟩ j) := by
    intro n m hm t i j
    rw [loV_apply, prs_apply, (sc_real hx0 hx1 hx3 hx4 _ _ _).sub_self, IsReal.zero.sub_self]
    exact (scG_ge x0 x1 x3 x4 t ⟨16 * n.val + i.val, by omega⟩ j (show ¬(16 * n.val + i.val < 80) by omega)).symm
  have z : ∀ (t i : Fin 16) (j : Fin 512),
      k0_pay26 (F := Ideal) (ix3 t i j) = (scG x0 x1 x3 x4) (ix3 t ⟨16 * (15 : Fin 16).val + i.val, by show 16 * 15 + i.val < 256; omega⟩ j) := by
    intro t i j
    have e : k0_pay26 (F := Ideal) (ix3 t i j) = 0 := by pointwise [k0_pay26]
    rw [e]
    exact (scG_ge x0 x1 x3 x4 t ⟨16 * 15 + i.val, by omega⟩ j (show ¬(16 * (15 : Fin 16).val + i.val < 80) by
      show ¬(16 * 15 + i.val < 80); omega)).symm
  refine View.canon_apply_of_pieces (scG x0 x1 x3 x4) _ ?_ (ix3 t r j) ?_
  · refine List.forall_mem_cons.2 ⟨pc_of 14 _ _ (lo _ 4 (by decide)), ?_⟩
    refine List.forall_mem_cons.2 ⟨pc_of 9 _ _ (mid _ 4 (by decide)), ?_⟩
    refine List.forall_mem_cons.2 ⟨pc_of 4 _ _ (hi _ 4 rfl), ?_⟩
    refine List.forall_mem_cons.2 ⟨pc_of 13 _ _ (lo _ 3 (by decide)), ?_⟩
    refine List.forall_mem_cons.2 ⟨pc_of 8 _ _ (mid _ 3 (by decide)), ?_⟩
    refine List.forall_mem_cons.2 ⟨pc_of 3 _ _ (hi _ 3 rfl), ?_⟩
    refine List.forall_mem_cons.2 ⟨pc_of 12 _ _ (lo _ 2 (by decide)), ?_⟩
    refine List.forall_mem_cons.2 ⟨pc_of 7 _ _ (mid _ 2 (by decide)), ?_⟩
    refine List.forall_mem_cons.2 ⟨pc_of 2 _ _ (hi _ 2 rfl), ?_⟩
    refine List.forall_mem_cons.2 ⟨pc_of 11 _ _ (lo _ 1 (by decide)), ?_⟩
    refine List.forall_mem_cons.2 ⟨pc_of 6 _ _ (mid _ 1 (by decide)), ?_⟩
    refine List.forall_mem_cons.2 ⟨pc_of 1 _ _ (hi _ 1 rfl), ?_⟩
    refine List.forall_mem_cons.2 ⟨pc_of 10 _ _ (lo _ 0 (by decide)), ?_⟩
    refine List.forall_mem_cons.2 ⟨pc_of 5 _ _ (mid _ 0 (by decide)), ?_⟩
    refine List.forall_mem_cons.2 ⟨pc_of 0 _ _ (hi _ 0 rfl), ?_⟩
    refine List.forall_mem_cons.2 ⟨pc_of 15 _ _ (z), ?_⟩
    exact fun p hp => absurd hp List.not_mem_nil
  · have hr := r.isLt
    have hn : r.val / 16 < 16 := by omega
    obtain ⟨n, hn'⟩ : ∃ n : Fin 16, r.val / 16 = n.val := ⟨⟨r.val / 16, hn⟩, rfl⟩
    fin_cases n
    · exact ⟨_, List.mem_of_getElem? (i := 14) rfl, mem_pc 0 _ t r j hn'⟩
    · exact ⟨_, List.mem_of_getElem? (i := 11) rfl, mem_pc 1 _ t r j hn'⟩
    · exact ⟨_, List.mem_of_getElem? (i := 8) rfl, mem_pc 2 _ t r j hn'⟩
    · exact ⟨_, List.mem_of_getElem? (i := 5) rfl, mem_pc 3 _ t r j hn'⟩
    · exact ⟨_, List.mem_of_getElem? (i := 2) rfl, mem_pc 4 _ t r j hn'⟩
    · exact ⟨_, List.mem_of_getElem? (i := 13) rfl, mem_pc 5 _ t r j hn'⟩
    · exact ⟨_, List.mem_of_getElem? (i := 10) rfl, mem_pc 6 _ t r j hn'⟩
    · exact ⟨_, List.mem_of_getElem? (i := 7) rfl, mem_pc 7 _ t r j hn'⟩
    · exact ⟨_, List.mem_of_getElem? (i := 4) rfl, mem_pc 8 _ t r j hn'⟩
    · exact ⟨_, List.mem_of_getElem? (i := 1) rfl, mem_pc 9 _ t r j hn'⟩
    · exact ⟨_, List.mem_of_getElem? (i := 12) rfl, mem_pc 10 _ t r j hn'⟩
    · exact ⟨_, List.mem_of_getElem? (i := 9) rfl, mem_pc 11 _ t r j hn'⟩
    · exact ⟨_, List.mem_of_getElem? (i := 6) rfl, mem_pc 12 _ t r j hn'⟩
    · exact ⟨_, List.mem_of_getElem? (i := 3) rfl, mem_pc 13 _ t r j hn'⟩
    · exact ⟨_, List.mem_of_getElem? (i := 0) rfl, mem_pc 14 _ t r j hn'⟩
    · exact ⟨_, List.mem_of_getElem? (i := 15) rfl, mem_pc 15 _ t r j hn'⟩

end Scratch

end Cert.KernelIdeal.Body

end
-- ==== Proof.Tile.lean ====
/-
  One tile of four queries: the head mixing of its stacked scores, the base-two softmax along the keys, and the second head
  mixing, each read at an index. The limb products of the two mixings collapse where the operands are real numbers: the
  remainder parts of a real number over the extended reals are zero.
-/
module

public import proofs.«01_k».proof.Proof.Gen.KernelIdeal.Frame
public import proofs.«01_k».proof.Proof.Maths
public import Idealize.ShloMosaic.Lib.Pipeline.ValueKit
public import Idealize.ShloMosaic.PureOps.Ideal
public import Idealize.ShloMosaic.Lib.Pointwise

@[expose] public section

set_option maxRecDepth 16384

noncomputable section

open Idealize.ShloMosaic Idealize.ShloMosaic.TcCoe Idealize.SL.Sem
open Cert.Maths

namespace Cert.KernelIdeal.Body

open Cert.KernelIdeal Cert.KernelIdeal.Gen

/-- The mixed logits of one tile: the three limb products of the head-mixing weights with the tile's stacked scores. -/
def lgV (v16 v17 v18 : FVec Ideal S64x256 .bf16) (v394 : Vec Ideal S1x256x512 .bf16) : FVec Ideal S64x512 .f32 :=
  have v395 : FVec Ideal S256x512 .bf16 := shapeCast S256x512 v394 shapeCasts_S1x256x512_S256x512
  have cst_298 : FVec Ideal S64x512 .f32 := constant S64x512 .f32 0x00000000#32
  have v396 : FVec Ideal S64x512 .f32 := matmul dot_S64x256_S256x512_S64x512_1_0_0_1_n_n none v16 v395 cst_298
  have cst_299 : Ideal .f32 := Scalar.ofBits .f32 0x00000000#32
  have v397 : FVec Ideal S64x512 .f32 := broadcast S64x512 cst_299
  have v398 : FVec Ideal S64x512 .f32 := addf v397 v396
  have cst_300 : FVec Ideal S64x512 .f32 := constant S64x512 .f32 0x00000000#32
  have v399 : FVec Ideal S64x512 .f32 := matmul dot_S64x256_S256x512_S64x512_1_0_0_1_n_n none v17 v395 cst_300
  have v400 : FVec Ideal S64x512 .f32 := addf v398 v399
  have cst_301 : FVec Ideal S64x512 .f32 := constant S64x512 .f32 0x00000000#32
  have v401 : FVec Ideal S64x512 .f32 := matmul dot_S64x256_S256x512_S64x512_1_0_0_1_n_n none v18 v395 cst_301
  have v402 : FVec Ideal S64x512 .f32 := addf v400 v401
  v402

/-- The base-two softmax along the keys. -/
def prV (v402 : FVec Ideal S64x512 .f32) : FVec Ideal S64x512 .f32 :=
  have v403 : FVec Ideal S64 .f32 := multiReduction .maximumf [1] S64 v402 0xFF800000#32 reduces_S64x512_S64 (.inl rfl) rfl
  have v404 : FVec Ideal S64x1 .f32 := shapeCast S64x1 v403 shapeCasts_S64_S64x1
  have v405 : FVec Ideal S64x512 .f32 := broadcastTo S64x512 v404 broadcasts_S64x1_S64x512
  have v406 : FVec Ideal S64x512 .f32 := subf v402 v405
  have v407 : FVec Ideal S64x512 .f32 := exp2 v406
  have v408 : FVec Ideal S64 .f32 := multiReduction .add [1] S64 v407 0x00000000#32 reduces_S64x512_S64 (.inl rfl) rfl
  have v409 : FVec Ideal S64x1 .f32 := shapeCast S64x1 v408 shapeCasts_S64_S64x1
  have cst_304 : Ideal .f32 := Scalar.ofBits .f32 0x3F800000#32
  have v410 : FVec Ideal S64x1 .f32 := broadcast S64x1 cst_304
  have v411 : FVec Ideal S64x1 .f32 := divf v410 v409
  have v412 : FVec Ideal S64x512 .f32 := broadcastTo S64x512 v411 broadcasts_S64x1_S64x512
  have v413 : FVec Ideal S64x512 .f32 := mulf v407 v412
  v413

/-- The second head mixing: the two limb products of the weights with the stacked attention weights. -/
def mixV (v34 v36 : FVec Ideal S48x256 .bf16) (v413 : FVec Ideal S64x512 .f32) : FVec Ideal S6x8x512 .f32 :=
  have v417 : FVec Ideal S64x512 .f32 := extf .f32 (truncf .bf16 v413)
  have v418 : FVec Ideal S64x512 .f32 := subf v413 v417
  have v422 : FVec Ideal S64x512 .f32 := extf .f32 (truncf .bf16 v418)
  have v423 : FVec Ideal S64x512 .f32 := subf v418 v422
  have v424 : FVec Ideal S64x512 .bf16 := truncf .bf16 v417 bitsLt_bf16_f32
  have v425 : FVec Ideal S64x512 .bf16 := truncf .bf16 v422 bitsLt_bf16_f32
  have v426 : FVec Ideal S64x512 .bf16 := truncf .bf16 v423 bitsLt_bf16_f32
  have v427 : FVec Ideal S256x512 .bf16 := concatenate S256x512 0 [⟨S64x512, v424⟩, ⟨S64x512, v425⟩, ⟨S64x512, v426⟩, ⟨S64x512, v424⟩] concatenates_S64x512_S64x512_S64x512_S64x512_S256x512_d0
  have cst_307 : FVec Ideal S48x512 .f32 := constant S48x512 .f32 0x00000000#32
  have v428 : FVec Ideal S48x512 .f32 := matmul dot_S48x256_S256x512_S48x512_1_0_0_1_n_n none v34 v427 cst_307
  have cst_308 : Ideal .f32 := Scalar.ofBits .f32 0x00000000#32
  have v429 : FVec Ideal S48x512 .f32 := broadcast S48x512 cst_308
  have v430 : FVec Ideal S48x512 .f32 := addf v429 v428
  have cst_309 : FVec Ideal S48x512 .f32 := constant S48x512 .f32 0x00000000#32
  have v431 : FVec Ideal S48x512 .f32 := matmul dot_S48x256_S256x512_S48x512_1_0_0_1_n_n none v36 v427 cst_309
  have v432 : FVec Ideal S48x512 .f32 := addf v430 v431
  have v433 : FVec Ideal S6x8x512 .f32 := shapeCast S6x8x512 v432 shapeCasts_S48x512_S6x8x512
  v433

theorem pay2_eq (v16 v17 v18 : FVec Ideal S64x256 .bf16) (v34 v36 : FVec Ideal S48x256 .bf16) (s : Vec Ideal S1x256x512 .bf16) :
    k0_pay2 v16 v17 v18 v34 v36 s = mixV v34 v36 (prV (lgV v16 v17 v18 s)) := rfl

theorem pay3_eq (v16 v17 v18 : FVec Ideal S64x256 .bf16) (v34 v36 : FVec Ideal S48x256 .bf16) (y : FVec Ideal S6x8x512 .f32)
    (s : Vec Ideal S1x256x512 .bf16) : k0_pay3 v16 v17 v18 v34 v36 y s
      = concatenate S6x16x512 1 [⟨S6x8x512, y⟩, ⟨S6x8x512, mixV v34 v36 (prV (lgV v16 v17 v18 s))⟩]
          concatenates_S6x8x512_S6x8x512_S6x16x512_d1 := rfl

/-- The bit pattern of minus infinity reads as the least extended real. -/
theorem ofBits_neg_inf : Ideal.ofBits FTy.f32 4286578688#32 = ⊥ := by
  simp [Ideal.ofBits, Ideal.ieee]

/-- The base-two softmax of a row of extended reals, normalised by a reciprocal. -/
def sm2 (l : Fin 512 → EReal) (j : Fin 512) : EReal :=
  Ideal.exp2 (l j - Finset.univ.fold max ⊥ l)
    * Ideal.div 1 (∑ x, Ideal.exp2 (l x - Finset.univ.fold max ⊥ l))

theorem pr_apply (l : FVec Ideal S64x512 .f32) (i : Fin 64) (j : Fin 512) :
    prV l (ix2 i j) = sm2 (fun x => l (ix2 i x)) j := by
  unfold sm2
  pointwise [prV]
  rw [ofBits_neg_inf]
  rfl

theorem lg_apply (x6 : Vec Ideal S64x80 .f32) (h6 : ∀ i, IsReal (x6 i)) (s : Vec Ideal S1x256x512 .bf16)
    (g : Fin 80 → Fin 512 → EReal) (h1 : ∀ (k : Fin 256) (j : Fin 512) (h : k.val < 80), s (ix3 0 k j) = g ⟨k.val, h⟩ j)
    (h2 : ∀ (k : Fin 256) (j : Fin 512), ¬ k.val < 80 → s (ix3 0 k j) = (0 : EReal)) (i : Fin 64) (j : Fin 512) :
    lgV (k0_pay16 x6) (k0_pay17 x6) (k0_pay18 x6) s (ix2 i j) = ∑ k : Fin 80, x6 (ix2 i k) * g k j := by
  pointwise [lgV, k0_pay16, k0_pay17, k0_pay18, k0_pay15, k0_pay14, k0_pay13, k0_pay12, k0_pay11]
  have hs : ∀ y, x6 y - x6 y = (0 : EReal) := fun y => (h6 y).sub_self
  simp only [hs, IsReal.zero.sub_self]
  refine (congrArg₂ (· + ·) (congrArg₂ (· + ·) (sum_lt (m := 80) (by omega) _ (fun k => x6 (ix2 i k) * g k j) ?_ ?_)
    (Finset.sum_eq_zero ?_)) (Finset.sum_eq_zero ?_)).trans ((add_zero _).trans (add_zero _))
  · intro k
    refine congrArg₂ (· * ·) (dif_pos k.isLt) (h1 _ _ k.isLt)
  · intro k hk
    exact (congrArg _ (h2 k j (by omega))).trans (mul_zero _)
  all_goals
    intro k _
    by_cases hk : k.val < 80
    · exact (congrArg (· * _) (dif_pos hk)).trans (zero_mul _)
    · exact (congrArg _ (h2 k j hk)).trans (mul_zero _)

theorem mix_apply (x7 : Vec Ideal S48x64 .f32) (h7 : ∀ i, IsReal (x7 i)) (l : FVec Ideal S64x512 .f32) (hl : ∀ i, IsReal (l i))
    (a : Fin 6) (b : Fin 8) (j : Fin 512) :
    mixV (k0_pay24 x7) (k0_pay25 x7) l (ix3 a b j) = ∑ k : Fin 64, x7 (ix2 ⟨a.val * 8 + b.val, by omega⟩ k) * l (ix2 k j) := by
  pointwise [mixV, k0_pay24, k0_pay25, k0_pay23, k0_pay22, k0_pay21, k0_pay20, k0_pay19]
  have hs : ∀ y, x7 y - x7 y = (0 : EReal) := fun y => (h7 y).sub_self
  have hl' : ∀ y, l y - l y = (0 : EReal) := fun y => (hl y).sub_self
  simp only [hs, hl', IsReal.zero.sub_self]
  refine (congrArg₂ (· + ·) (sum_lt (m := 64) (by omega) _
    (fun k => x7 (ix2 ⟨a.val * 8 + b.val, by omega⟩ k) * l (ix2 k j)) ?_ ?_)
    (Finset.sum_eq_zero ?_)).trans (add_zero _)
  · intro k
    refine congrArg₂ (· * ·) (dif_pos k.isLt) (dif_pos k.isLt)
  · intro k hk
    split_ifs <;> first | omega | simp
  · intro k _
    split_ifs <;> first | omega | simp

end Cert.KernelIdeal.Body

end
-- ==== Proof.Loop.lean ====
/-
  The probabilities scratch of one grid point: one trip of the counted loop handles two tiles of four queries and stores six
  pieces; after eight trips every index is written.
-/
module

public import proofs.«01_k».proof.Proof.Scores
public import proofs.«01_k».proof.Proof.Tile

@[expose] public section

set_option maxRecDepth 16384

noncomputable section

open Idealize.ShloMosaic Idealize.ShloMosaic.TcCoe Idealize.SL.Sem
open Cert.Maths

namespace Cert.KernelIdeal.Body

open Cert.KernelIdeal Cert.KernelIdeal.Gen

theorem sm2_real (l : Fin 512 → EReal) (hl : ∀ x, IsReal (l x)) (j : Fin 512) : IsReal (sm2 l j) := by
  choose r hr using hl
  have hlog : Real.log 2 ≠ 0 := (Real.log_pos (by norm_num)).ne'
  have e : l = fun x => ((r x * Real.log 2 * (Real.log 2)⁻¹ : ℝ) : EReal) := by
    funext x; rw [hr x, mul_assoc, mul_inv_cancel₀ hlog, mul_one]
  rw [e]
  unfold sm2
  rw [(softmax_eq (by omega) (fun x => r x * Real.log 2) j).1]
  exact (softmax_eq (by omega) (fun x => r x * Real.log 2) j).2

/-- The mixed attention weight of tile `t`: row `m * 4 + i` is output head `m` and query `i` of the tile. -/
def wts (x0 : Vec Ideal S1x10x128x256 .fp8e4m3) (x1 : Vec Ideal S1x10x512x256 .fp8e4m3) (x3 : Vec Ideal S1x10x128x1 .f32)
    (x4 : Vec Ideal S1x10x8x512 .f32) (x6 : Vec Ideal S64x80 .f32) (x7 : Vec Ideal S48x64 .f32) (t : Fin 16) (row : Fin 48)
    (j : Fin 512) : EReal :=
  ∑ k : Fin 64, x7 (ix2 row k) * sm2 (fun j' => ∑ k' : Fin 80, x6 (ix2 k k') * sc x0 x1 x3 x4 t k' j') j

section Values

variable {x0 : Vec Ideal S1x10x128x256 .fp8e4m3} {x1 : Vec Ideal S1x10x512x256 .fp8e4m3} {x3 : Vec Ideal S1x10x128x1 .f32}
  {x4 : Vec Ideal S1x10x8x512 .f32} {x6 : Vec Ideal S64x80 .f32} {x7 : Vec Ideal S48x64 .f32}
  (hx0 : ∀ i, IsReal (x0 i)) (hx1 : ∀ i, IsReal (x1 i)) (hx3 : ∀ i, IsReal (x3 i)) (hx4 : ∀ i, IsReal (x4 i))
  (hx6 : ∀ i, IsReal (x6 i)) (hx7 : ∀ i, IsReal (x7 i))

include hx0 hx1 hx3 hx4 hx6 hx7 in
theorem tile_apply (t : Fin 16) (s : Vec Ideal S1x256x512 .bf16)
    (hs : ∀ (r : Fin 256) (j : Fin 512), s (ix3 0 r j) = scG x0 x1 x3 x4 (ix3 t r j)) (a : Fin 6) (b : Fin 8) (j : Fin 512) :
    mixV (k0_pay24 x7) (k0_pay25 x7) (prV (lgV (k0_pay16 x6) (k0_pay17 x6) (k0_pay18 x6) s)) (ix3 a b j)
      = wts x0 x1 x3 x4 x6 x7 t ⟨a.val * 8 + b.val, by omega⟩ j := by
  have hlg : ∀ (i : Fin 64) (j : Fin 512), lgV (k0_pay16 x6) (k0_pay17 x6) (k0_pay18 x6) s (ix2 i j)
      = ∑ k' : Fin 80, x6 (ix2 i k') * sc x0 x1 x3 x4 t k' j :=
    fun i j => lg_apply x6 hx6 s (sc x0 x1 x3 x4 t)
      (fun k j h => (hs k j).trans (scG_lt x0 x1 x3 x4 t k j h)) (fun k j h => (hs k j).trans (scG_ge x0 x1 x3 x4 t k j h)) i j
  have hpr : ∀ (i : Fin 64) (j : Fin 512), prV (lgV (k0_pay16 x6) (k0_pay17 x6) (k0_pay18 x6) s) (ix2 i j)
      = sm2 (fun j' => ∑ k' : Fin 80, x6 (ix2 i k') * sc x0 x1 x3 x4 t k' j') j := by
    intro i j
    rw [pr_apply]
    exact congrArg (fun l => sm2 l j) (funext fun x => hlg i x)
  have hreal : ∀ y, IsReal (prV (lgV (k0_pay16 x6) (k0_pay17 x6) (k0_pay18 x6) s) y) := by
    intro y
    obtain ⟨i, j, rfl⟩ : ∃ (i : Fin 64) (j : Fin 512), y = ix2 i j := ⟨y 0, y 1, eq_ix2 y⟩
    rw [hpr]
    exact sm2_real _ (fun x => IsReal.sum fun k => (hx6 _).mul (sc_real hx0 hx1 hx3 hx4 _ _ _)) j
  rw [mix_apply x7 hx7 _ hreal]
  exact Finset.sum_congr rfl fun k _ => congrArg _ (hpr k j)

end Values

/-! ### The payload of one stored piece -/

theorem stack_apply (v16 v17 v18 : FVec Ideal S64x256 .bf16) (v34 v36 : FVec Ideal S48x256 .bf16) (y : FVec Ideal S6x8x512 .f32)
    (s : Vec Ideal S1x256x512 .bf16) (a : Fin 6) (r : Fin 16) (j : Fin 512) :
    k0_pay3 v16 v17 v18 v34 v36 y s (ix3 a r j)
      = if h : r.val < 8 then y (ix3 a ⟨r.val, h⟩ j)
        else mixV v34 v36 (prV (lgV v16 v17 v18 s)) (ix3 a ⟨r.val - 8, by omega⟩ j) := by
  rw [pay3_eq]
  generalize mixV v34 v36 (prV (lgV v16 v17 v18 s)) = z
  pointwise []

/-- The first slice of the stack times the value scales. -/
def scaled0 (M : FVec Ideal S6x16x512 .f32) (vs : Vec Ideal S1x1x8x512 .f32) : FVec Ideal S1x16x512 .bf16 :=
  k0_pay5 (shapeCast S2x8x512 (shapeCast S16x512 (extractStridedSlice S1x16x512 ![0, 0, 0] M slices_S6x16x512_o0_0_0_S1x16x512)
    shapeCasts_S1x16x512_S16x512) shapeCasts_S16x512_S2x8x512) vs

theorem scaled0_eq (v16 v17 v18 : FVec Ideal S64x256 .bf16) (v34 v36 : FVec Ideal S48x256 .bf16) (y : FVec Ideal S6x8x512 .f32)
    (s : Vec Ideal S1x256x512 .bf16) (vs : Vec Ideal S1x1x8x512 .f32) :
    k0_pay5 (k0_pay4 v16 v17 v18 v34 v36 y s) vs = scaled0 (k0_pay3 v16 v17 v18 v34 v36 y s) vs := rfl

theorem scaled0_apply (M : FVec Ideal S6x16x512 .f32) (vs : Vec Ideal S1x1x8x512 .f32) (r : Fin 16) (j : Fin 512) :
    scaled0 M vs (ix3 0 r j) = M (ix3 0 r j) * vs (ix4 0 0 ⟨r.val % 8, by omega⟩ j) := by
  pointwise [scaled0, k0_pay5]

theorem scaled1_apply (M : FVec Ideal S6x16x512 .f32) (vs : Vec Ideal S1x1x8x512 .f32) (r : Fin 16) (j : Fin 512) :
    k0_pay6 M vs (ix3 0 r j) = M (ix3 1 r j) * vs (ix4 0 0 ⟨r.val % 8, by omega⟩ j) := by
  pointwise [k0_pay6]

theorem scaled2_apply (M : FVec Ideal S6x16x512 .f32) (vs : Vec Ideal S1x1x8x512 .f32) (r : Fin 16) (j : Fin 512) :
    k0_pay7 M vs (ix3 0 r j) = M (ix3 2 r j) * vs (ix4 0 0 ⟨r.val % 8, by omega⟩ j) := by
  pointwise [k0_pay7]

theorem scaled3_apply (M : FVec Ideal S6x16x512 .f32) (vs : Vec Ideal S1x1x8x512 .f32) (r : Fin 16) (j : Fin 512) :
    k0_pay8 M vs (ix3 0 r j) = M (ix3 3 r j) * vs (ix4 0 0 ⟨r.val % 8, by omega⟩ j) := by
  pointwise [k0_pay8]

theorem scaled4_apply (M : FVec Ideal S6x16x512 .f32) (vs : Vec Ideal S1x1x8x512 .f32) (r : Fin 16) (j : Fin 512) :
    k0_pay9 M vs (ix3 0 r j) = M (ix3 4 r j) * vs (ix4 0 0 ⟨r.val % 8, by omega⟩ j) := by
  pointwise [k0_pay9]

theorem scaled5_apply (M : FVec Ideal S6x16x512 .f32) (vs : Vec Ideal S1x1x8x512 .f32) (r : Fin 16) (j : Fin 512) :
    k0_pay77 (k0_pay10 M vs) (ix3 0 r j) = M (ix3 5 r j) * vs (ix4 0 0 ⟨r.val % 8, by omega⟩ j) := by
  pointwise [k0_pay77, k0_pay10]

/-! ### One trip of the counted loop -/

section Trip

theorem inbV (n : Fin 6) : ∀ a, (![0, n.val, 0, 0] : Fin 4 → ℕ) a + S1x1x8x512.size a ≤ S1x6x8x512.size a := by
  have := n.isLt
  intro a; fin_cases a <;> simp <;> omega

variable (𝒱 : Variants) (c : Dev nD) (bd : Option 𝒱.V) (i : grid0.Coords)
  (a2 : Memref sig .tc .vmem S1x10x128x256 .fp8e4m3) (h2 : a2.IsWhole) (a3 : Memref sig .tc .vmem S1x10x512x256 .fp8e4m3) (h3 : a3.IsWhole)
  (a4 : Memref sig .tc .vmem S1x6x512x256 .fp8e4m3) (h4 : a4.IsWhole) (a5 : Memref sig .tc .vmem S1x10x128x1 .f32) (h5 : a5.IsWhole)
  (a6 : Memref sig .tc .vmem S1x10x8x512 .f32) (h6 : a6.IsWhole) (a7 : Memref sig .tc .vmem S1x6x8x512 .f32) (h7 : a7.IsWhole)
  (a8 : Memref sig .tc .vmem S64x80 .f32) (h8 : a8.IsWhole) (a9 : Memref sig .tc .vmem S48x64 .f32) (h9 : a9.IsWhole)
  (a10 : Memref sig .tc .vmem S1x6x128x256 .f32) (h10 : a10.IsWhole) (a11 : Memref sig .tc .vmem S16x256x512 .bf16) (h11 : a11.IsWhole)
  (a12 : Memref sig .tc .vmem S6x128x512 .bf16) (h12 : a12.IsWhole)
  (v16 v17 v18 : FVec Ideal S64x256 .bf16) (v34 v36 : FVec Ideal S48x256 .bf16) (c0 c1 : BitVec 32)
  (X7 : BufTy.Contents (Elt Ideal) a7.view.ty) (X11 : BufTy.Contents (Elt Ideal) a11.view.ty)

/-- The value scales of output head pair `n`, as the trip loads them. -/
def ldV (n : Fin 6) : Vec Ideal S1x1x8x512 .f32 :=
  View.readAt (Elt Ideal) a7.view (Rect.unit (s := S1x6x8x512) ![0, n.val, 0, 0] S1x1x8x512.size (inbV n)).toLoadRect X7

/-- The stacked scores of tile `2 k` (`e = 0`) or `2 k + 1` (`e = 1`), as trip `k` loads them. -/
def ldS (k : Fin k0_t1_loop.trips) (e : Fin 2) : Vec Ideal S1x256x512 .bf16 :=
  View.readAt (Elt Ideal) a11.view (Rect.unit (s := S16x256x512) (k0_off1 k (BitVec.ofNat 32 e.val)) S1x256x512.size
    (k0_off1_inb k e)).toLoadRect X11

/-- The stack of the two tiles' mixed attention weights. -/
def stk (k : Fin k0_t1_loop.trips) : FVec Ideal S6x16x512 .f32 :=
  k0_pay3 v16 v17 v18 v34 v36 (mixV v34 v36 (prV (lgV v16 v17 v18 (ldS a11 X11 k 0)))) (ldS a11 X11 k 1)

/-- What one trip stores, last first. -/
theorem trip_eq (k : Fin k0_t1_loop.trips) :
    tripL_k0_t1 (F := Ideal) 𝒱 c bd i a2 h2 a3 h3 a4 h4 a5 h5 a6 h6 a7 h7 a8 h8 a9 h9 a10 h10 a11 h11 a12 h12
        v16 v17 v18 v34 v36 c0 c1 X7 X11 k
      = [⟨Rect.unit (s := S6x128x512) (k0_off7 k) S1x16x512.size (k0_off7_inb k), k0_pay77 (k0_pay10 (stk a11 v16 v17 v18 v34 v36 X11 k) (ldV a7 X7 5))⟩,
        ⟨Rect.unit (s := S6x128x512) (k0_off6 k) S1x16x512.size (k0_off6_inb k), k0_pay9 (stk a11 v16 v17 v18 v34 v36 X11 k) (ldV a7 X7 4)⟩,
        ⟨Rect.unit (s := S6x128x512) (k0_off5 k) S1x16x512.size (k0_off5_inb k), k0_pay8 (stk a11 v16 v17 v18 v34 v36 X11 k) (ldV a7 X7 3)⟩,
        ⟨Rect.unit (s := S6x128x512) (k0_off4 k) S1x16x512.size (k0_off4_inb k), k0_pay7 (stk a11 v16 v17 v18 v34 v36 X11 k) (ldV a7 X7 2)⟩,
        ⟨Rect.unit (s := S6x128x512) (k0_off3 k) S1x16x512.size (k0_off3_inb k), k0_pay6 (stk a11 v16 v17 v18 v34 v36 X11 k) (ldV a7 X7 1)⟩,
        ⟨Rect.unit (s := S6x128x512) (k0_off2 k) S1x16x512.size (k0_off2_inb k), scaled0 (stk a11 v16 v17 v18 v34 v36 X11 k) (ldV a7 X7 0)⟩] := by
  unfold tripL_k0_t1 trip_k0_t1
  rfl

end Trip

theorem off1_eq : ∀ k : Fin k0_t1_loop.trips, ∀ e : Fin 2, k0_off1 k (BitVec.ofNat 32 e.val) = ![2 * k.val + e.val, 0, 0] := by decide +kernel
theorem off2_eq : ∀ k : Fin k0_t1_loop.trips, k0_off2 k = ![0, 16 * k.val, 0] := by decide +kernel
theorem off3_eq : ∀ k : Fin k0_t1_loop.trips, k0_off3 k = ![1, 16 * k.val, 0] := by decide +kernel
theorem off4_eq : ∀ k : Fin k0_t1_loop.trips, k0_off4 k = ![2, 16 * k.val, 0] := by decide +kernel
theorem off5_eq : ∀ k : Fin k0_t1_loop.trips, k0_off5 k = ![3, 16 * k.val, 0] := by decide +kernel
theorem off6_eq : ∀ k : Fin k0_t1_loop.trips, k0_off6 k = ![4, 16 * k.val, 0] := by decide +kernel
theorem off7_eq : ∀ k : Fin k0_t1_loop.trips, k0_off7 k = ![5, 16 * k.val, 0] := by decide +kernel
theorem trips_eq : k0_t1_loop.trips = 8 := by decide +kernel

/-! ### The probabilities scratch -/

/-- The scaled mixed attention weights: output head pair `y 0`, row `8 t + q` holding head of the pair and query `q` of tile `t`. -/
def pG (x0 : Vec Ideal S1x10x128x256 .fp8e4m3) (x1 : Vec Ideal S1x10x512x256 .fp8e4m3) (x3 : Vec Ideal S1x10x128x1 .f32)
    (x4 : Vec Ideal S1x10x8x512 .f32) (x5 : Vec Ideal S1x6x8x512 .f32) (x6 : Vec Ideal S64x80 .f32) (x7 : Vec Ideal S48x64 .f32)
    (m : Fin 6) (r : Fin 128) (j : Fin 512) : EReal :=
  wts x0 x1 x3 x4 x6 x7 ⟨r.val / 8, by omega⟩ ⟨m.val * 8 + r.val % 8, by omega⟩ j * x5 (ix4 0 m ⟨r.val % 8, by omega⟩ j)

/-- The same as one block. -/
def pB (x0 : Vec Ideal S1x10x128x256 .fp8e4m3) (x1 : Vec Ideal S1x10x512x256 .fp8e4m3) (x3 : Vec Ideal S1x10x128x1 .f32)
    (x4 : Vec Ideal S1x10x8x512 .f32) (x5 : Vec Ideal S1x6x8x512 .f32) (x6 : Vec Ideal S64x80 .f32) (x7 : Vec Ideal S48x64 .f32) :
    Vec Ideal S6x128x512 .bf16 :=
  fun y => pG x0 x1 x3 x4 x5 x6 x7 (y 0) (y 1) (y 2)

/-- A piece of one trip agrees with `G` where its payload does. -/
theorem piece_of (off : Fin 3 → ℕ) (inb : ∀ a, off a + S1x16x512.size a ≤ S6x128x512.size a) (v : FVec Ideal S1x16x512 .bf16)
    (m : Fin 6) (k : ℕ) (hk : k < 8) (hoff : off = ![m.val, 16 * k, 0]) (G : Vec Ideal S6x128x512 .bf16)
    (h : ∀ (r : Fin 16) (j : Fin 512), v (ix3 0 r j) = G (ix3 m ⟨16 * k + r.val, by omega⟩ j))
    (x : (Rect.unit (s := S6x128x512) off S1x16x512.size inb).shape.Idx) :
    v x = G ((Rect.unit (s := S6x128x512) off S1x16x512.size inb).emb x) := by
  subst hoff
  obtain ⟨z, r, j, rfl⟩ : ∃ (z : Fin 1) (r : Fin 16) (j : Fin 512), x = ix3 z r j := ⟨x 0, x 1, x 2, eq_ix3 x⟩
  obtain rfl : z = 0 := Subsingleton.elim _ _
  refine (h r j).trans (congrArg G ?_)
  funext a
  apply Fin.ext
  match a with
  | ⟨0, _⟩ => show m.val = m.val + 1 * 0; omega
  | ⟨1, _⟩ => show 16 * k + r.val = 16 * k + 1 * r.val; omega
  | ⟨2, _⟩ => show j.val = 0 + 1 * j.val; omega

theorem mem_piece (off : Fin 3 → ℕ) (inb : ∀ a, off a + S1x16x512.size a ≤ S6x128x512.size a) (m : Fin 6) (k : ℕ)
    (hoff : off = ![m.val, 16 * k, 0]) (r : Fin 128) (hr : r.val / 16 = k) (j : Fin 512) :
    (ix3 m r j : S6x128x512.Idx) ∈ (Rect.unit (s := S6x128x512) off S1x16x512.size inb).set := by
  subst hoff
  rw [Rect.mem_set_unit]
  intro a
  match a with
  | ⟨0, _⟩ => exact ⟨le_refl _, by show m.val < m.val + 1; omega⟩
  | ⟨1, _⟩ => exact ⟨by show 16 * k ≤ r.val; omega, by show r.val < 16 * k + 16; omega⟩
  | ⟨2, _⟩ => exact ⟨Nat.zero_le _, by show j.val < 0 + 512; omega⟩

section Scratch

variable (𝒱 : Variants) (c : Dev nD) (bd : Option 𝒱.V) (i : grid0.Coords)
  (a2 : Memref sig .tc .vmem S1x10x128x256 .fp8e4m3) (h2 : a2.IsWhole) (a3 : Memref sig .tc .vmem S1x10x512x256 .fp8e4m3) (h3 : a3.IsWhole)
  (a4 : Memref sig .tc .vmem S1x6x512x256 .fp8e4m3) (h4 : a4.IsWhole) (a5 : Memref sig .tc .vmem S1x10x128x1 .f32) (h5 : a5.IsWhole)
  (a6 : Memref sig .tc .vmem S1x10x8x512 .f32) (h6 : a6.IsWhole) (a7 : Memref sig .tc .vmem S1x6x8x512 .f32) (h7 : a7.IsWhole)
  (a8 : Memref sig .tc .vmem S64x80 .f32) (h8 : a8.IsWhole) (a9 : Memref sig .tc .vmem S48x64 .f32) (h9 : a9.IsWhole)
  (a10 : Memref sig .tc .vmem S1x6x128x256 .f32) (h10 : a10.IsWhole) (a11 : Memref sig .tc .vmem S16x256x512 .bf16) (h11 : a11.IsWhole)
  (a12 : Memref sig .tc .vmem S6x128x512 .bf16) (h12 : a12.IsWhole)
  {x0 : Vec Ideal S1x10x128x256 .fp8e4m3} {x1 : Vec Ideal S1x10x512x256 .fp8e4m3} {x3 : Vec Ideal S1x10x128x1 .f32}
  {x4 : Vec Ideal S1x10x8x512 .f32} (x5 : Vec Ideal S1x6x8x512 .f32) {x6 : Vec Ideal S64x80 .f32} {x7 : Vec Ideal S48x64 .f32}
  (hx0 : ∀ i, IsReal (x0 i)) (hx1 : ∀ i, IsReal (x1 i)) (hx3 : ∀ i, IsReal (x3 i)) (hx4 : ∀ i, IsReal (x4 i))
  (hx6 : ∀ i, IsReal (x6 i)) (hx7 : ∀ i, IsReal (x7 i)) (c0 c1 : BitVec 32)
  (X11 : BufTy.Contents (Elt Ideal) a11.view.ty)
  (hS : ∀ (k : Fin k0_t1_loop.trips) (e : Fin 2) (t : Fin 16) (ht : t.val = 2 * k.val + e.val) (r : Fin 256) (j : Fin 512),
    ldS a11 X11 k e (ix3 0 r j) = scG x0 x1 x3 x4 (ix3 t r j))

theorem ldV_apply (n : Fin 6) (b : Fin 8) (j : Fin 512) : ldV a7 (h7.unread x5) n (ix4 0 0 b j) = x5 (ix4 0 n b j) := by
  unfold ldV
  rw [View.readAt_eq_ld, h7.read_unread]
  pointwise

include hx0 hx1 hx3 hx4 hx6 hx7 hS in
theorem stk_apply (k : Fin k0_t1_loop.trips) (a : Fin 6) (r : Fin 16) (j : Fin 512) (t : Fin 16) (row : Fin 48)
    (ht : t.val = 2 * k.val + r.val / 8) (hrow : row.val = a.val * 8 + r.val % 8) :
    stk a11 (k0_pay16 x6) (k0_pay17 x6) (k0_pay18 x6) (k0_pay24 x7) (k0_pay25 x7) X11 k (ix3 a r j)
      = wts x0 x1 x3 x4 x6 x7 t row j := by
  unfold stk
  rw [stack_apply]
  split_ifs with h
  · rw [tile_apply hx0 hx1 hx3 hx4 hx6 hx7 t _ (hS k 0 t (by rw [ht]; show _ = 2 * k.val + 0; omega))]
    exact congrArg (fun row => wts x0 x1 x3 x4 x6 x7 t row j) (Fin.ext (by show a.val * 8 + r.val = row.val; omega))
  · rw [tile_apply hx0 hx1 hx3 hx4 hx6 hx7 t _ (hS k 1 t (by rw [ht]; show _ = 2 * k.val + 1; omega))]
    exact congrArg (fun row => wts x0 x1 x3 x4 x6 x7 t row j) (Fin.ext (by show a.val * 8 + (r.val - 8) = row.val; omega))

include hx0 hx1 hx3 hx4 hx6 hx7 hS in
theorem trip_piece (k : Fin k0_t1_loop.trips) (m : Fin 6) (v : FVec Ideal S1x16x512 .bf16)
    (hv : ∀ (r : Fin 16) (j : Fin 512), v (ix3 0 r j)
      = stk a11 (k0_pay16 x6) (k0_pay17 x6) (k0_pay18 x6) (k0_pay24 x7) (k0_pay25 x7) X11 k (ix3 m r j)
        * ldV a7 (h7.unread x5) m (ix4 0 0 ⟨r.val % 8, by omega⟩ j)) (hk : k.val < 8) (r : Fin 16) (j : Fin 512) :
    v (ix3 0 r j) = pB x0 x1 x3 x4 x5 x6 x7 (ix3 m ⟨16 * k.val + r.val, by omega⟩ j) := by
  rw [hv]
  show _ = wts x0 x1 x3 x4 x6 x7 ⟨(16 * k.val + r.val) / 8, _⟩ ⟨m.val * 8 + (16 * k.val + r.val) % 8, _⟩ j
    * x5 (ix4 0 m ⟨(16 * k.val + r.val) % 8, _⟩ j)
  rw [stk_apply a11 hx0 hx1 hx3 hx4 hx6 hx7 X11 hS k m r j ⟨(16 * k.val + r.val) / 8, by omega⟩
    ⟨m.val * 8 + (16 * k.val + r.val) % 8, by omega⟩ (by simp only; omega) (by simp only; omega), ldV_apply]
  have e : (⟨r.val % 8, by omega⟩ : Fin 8) = ⟨(16 * k.val + r.val) % 8, by omega⟩ := Fin.ext (by simp only; omega)
  rw [e]

include hx0 hx1 hx3 hx4 hx6 hx7 hS in
/-- Every piece stored before trip `n` agrees with the scaled weights. -/
theorem pb_pieces (n : ℕ) (hn : n ≤ k0_t1_loop.trips) :
    ∀ p ∈ pb_k0_t1 (F := Ideal) 𝒱 c bd i a2 h2 a3 h3 a4 h4 a5 h5 a6 h6 a7 h7 a8 h8 a9 h9 a10 h10 a11 h11 a12 h12 (k0_pay16 x6)
        (k0_pay17 x6) (k0_pay18 x6) (k0_pay24 x7) (k0_pay25 x7) c0 c1 (h7.unread x5) X11 n,
      ∀ x : p.1.shape.Idx, p.2 x = pB x0 x1 x3 x4 x5 x6 x7 (p.1.emb x) := by
  induction n with
  | zero => intro p hp; exact absurd hp List.not_mem_nil
  | succ n ih =>
    have e := pb_k0_t1_succ (F := Ideal) 𝒱 c bd i a2 h2 a3 h3 a4 h4 a5 h5 a6 h6 a7 h7 a8 h8 a9 h9 a10 h10 a11 h11 a12 h12 (k0_pay16 x6)
        (k0_pay17 x6) (k0_pay18 x6) (k0_pay24 x7) (k0_pay25 x7) c0 c1 (h7.unread x5) X11 ⟨n, hn⟩
    have hk : n < 8 := trips_eq ▸ hn
    have tp := trip_piece a7 h7 a11 x5 hx0 hx1 hx3 hx4 hx6 hx7 X11 hS ⟨n, hn⟩
    intro p hp
    rw [e] at hp
    rcases List.mem_append.mp hp with hp | hp
    · have key : ∀ p ∈ tripL_k0_t1 (F := Ideal) 𝒱 c bd i a2 h2 a3 h3 a4 h4 a5 h5 a6 h6 a7 h7 a8 h8 a9 h9 a10 h10 a11 h11 a12 h12
          (k0_pay16 x6) (k0_pay17 x6) (k0_pay18 x6) (k0_pay24 x7) (k0_pay25 x7) c0 c1 (h7.unread x5) X11 ⟨n, hn⟩,
          ∀ x : p.1.shape.Idx, p.2 x = pB x0 x1 x3 x4 x5 x6 x7 (p.1.emb x) := by
        rw [trip_eq]
        refine List.forall_mem_cons.2 ⟨piece_of _ (k0_off7_inb ⟨n, hn⟩) _ 5 n hk (off7_eq ⟨n, hn⟩) _ (tp 5 _ (scaled5_apply _ _) hk), ?_⟩
        refine List.forall_mem_cons.2 ⟨piece_of _ (k0_off6_inb ⟨n, hn⟩) _ 4 n hk (off6_eq ⟨n, hn⟩) _ (tp 4 _ (scaled4_apply _ _) hk), ?_⟩
        refine List.forall_mem_cons.2 ⟨piece_of _ (k0_off5_inb ⟨n, hn⟩) _ 3 n hk (off5_eq ⟨n, hn⟩) _ (tp 3 _ (scaled3_apply _ _) hk), ?_⟩
        refine List.forall_mem_cons.2 ⟨piece_of _ (k0_off4_inb ⟨n, hn⟩) _ 2 n hk (off4_eq ⟨n, hn⟩) _ (tp 2 _ (scaled2_apply _ _) hk), ?_⟩
        refine List.forall_mem_cons.2 ⟨piece_of _ (k0_off3_inb ⟨n, hn⟩) _ 1 n hk (off3_eq ⟨n, hn⟩) _ (tp 1 _ (scaled1_apply _ _) hk), ?_⟩
        refine List.forall_mem_cons.2 ⟨piece_of _ (k0_off2_inb ⟨n, hn⟩) _ 0 n hk (off2_eq ⟨n, hn⟩) _ (tp 0 _ (scaled0_apply _ _) hk), ?_⟩
        exact fun p hp => absurd hp List.not_mem_nil
      exact key p hp
    · exact ih (by omega) p hp

theorem pb_cover (v16 v17 v18 : FVec Ideal S64x256 .bf16) (v34 v36 : FVec Ideal S48x256 .bf16)
    (X7 : BufTy.Contents (Elt Ideal) a7.view.ty) (n : ℕ) (hn : n ≤ k0_t1_loop.trips) (m : Fin 6) (r : Fin 128)
    (hr : r.val < 16 * n) (j : Fin 512) :
    ∃ p ∈ pb_k0_t1 (F := Ideal) 𝒱 c bd i a2 h2 a3 h3 a4 h4 a5 h5 a6 h6 a7 h7 a8 h8 a9 h9 a10 h10 a11 h11 a12 h12
        v16 v17 v18 v34 v36 c0 c1 X7 X11 n, (ix3 m r j : S6x128x512.Idx) ∈ p.1.set := by
  induction n with
  | zero => omega
  | succ n ih =>
    have e := pb_k0_t1_succ (F := Ideal) 𝒱 c bd i a2 h2 a3 h3 a4 h4 a5 h5 a6 h6 a7 h7 a8 h8 a9 h9 a10 h10 a11 h11 a12 h12
        v16 v17 v18 v34 v36 c0 c1 X7 X11 ⟨n, hn⟩
    rw [e]
    by_cases h : r.val < 16 * n
    · obtain ⟨p, hp, hy⟩ := ih (by omega) h
      exact ⟨p, List.mem_append_right _ hp, hy⟩
    · have hr' : r.val / 16 = n := by omega
      rw [trip_eq]
      match m with
      | ⟨0, _⟩ => exact ⟨_, List.mem_append_left _ (List.mem_of_getElem? (i := 5) rfl), mem_piece _ (k0_off2_inb ⟨n, hn⟩) 0 n (off2_eq ⟨n, hn⟩) r hr' j⟩
      | ⟨1, _⟩ => exact ⟨_, List.mem_append_left _ (List.mem_of_getElem? (i := 4) rfl), mem_piece _ (k0_off3_inb ⟨n, hn⟩) 1 n (off3_eq ⟨n, hn⟩) r hr' j⟩
      | ⟨2, _⟩ => exact ⟨_, List.mem_append_left _ (List.mem_of_getElem? (i := 3) rfl), mem_piece _ (k0_off4_inb ⟨n, hn⟩) 2 n (off4_eq ⟨n, hn⟩) r hr' j⟩
      | ⟨3, _⟩ => exact ⟨_, List.mem_append_left _ (List.mem_of_getElem? (i := 2) rfl), mem_piece _ (k0_off5_inb ⟨n, hn⟩) 3 n (off5_eq ⟨n, hn⟩) r hr' j⟩
      | ⟨4, _⟩ => exact ⟨_, List.mem_append_left _ (List.mem_of_getElem? (i := 1) rfl), mem_piece _ (k0_off6_inb ⟨n, hn⟩) 4 n (off6_eq ⟨n, hn⟩) r hr' j⟩
      | ⟨5, _⟩ => exact ⟨_, List.mem_append_left _ (List.mem_of_getElem? (i := 0) rfl), mem_piece _ (k0_off7_inb ⟨n, hn⟩) 5 n (off7_eq ⟨n, hn⟩) r hr' j⟩

include hx0 hx1 hx3 hx4 hx6 hx7 hS in
/-- After the loop the probabilities scratch holds the scaled weights. -/
theorem probs_apply (m : Fin 6) (r : Fin 128) (j : Fin 512) :
    View.canon (pb_k0_t1 (F := Ideal) 𝒱 c bd i a2 h2 a3 h3 a4 h4 a5 h5 a6 h6 a7 h7 a8 h8 a9 h9 a10 h10 a11 h11 a12 h12 (k0_pay16 x6)
        (k0_pay17 x6) (k0_pay18 x6) (k0_pay24 x7) (k0_pay25 x7) c0 c1 (h7.unread x5) X11 k0_t1_loop.trips) (ix3 m r j)
      = pG x0 x1 x3 x4 x5 x6 x7 m r j :=
  View.canon_apply_of_pieces (pB x0 x1 x3 x4 x5 x6 x7) _
    (pb_pieces 𝒱 c bd i a2 h2 a3 h3 a4 h4 a5 h5 a6 h6 a7 h7 a8 h8 a9 h9 a10 h10 a11 h11 a12 h12 x5 hx0 hx1 hx3 hx4 hx6 hx7 c0 c1 X11
      hS _ le_rfl) _
    (pb_cover 𝒱 c bd i a2 h2 a3 h3 a4 h4 a5 h5 a6 h6 a7 h7 a8 h8 a9 h9 a10 h10 a11 h11 a12 h12 c0 c1 X11 _ _ _ _ _ _ _ le_rfl m r
      (by rw [trips_eq]; omega) j)

end Scratch

end Cert.KernelIdeal.Body

end
-- ==== Proof.Body.lean ====
/-
  What one grid point leaves in its output block: per pair of output heads, the scaled mixed attention weights times the values.
-/
module

public import proofs.«01_k».proof.Proof.Loop

@[expose] public section

set_option maxRecDepth 16384

noncomputable section

open Idealize.ShloMosaic Idealize.ShloMosaic.TcCoe Idealize.SL.Sem
open Cert.Maths

namespace Cert.KernelIdeal.Body

open Cert.KernelIdeal Cert.KernelIdeal.Gen

/-- The product of the weights of one pair of output heads with its values. -/
theorem pv_apply (p : Vec Ideal S1x128x512 .bf16) (v : Vec Ideal S1x1x512x256 .fp8e4m3) (r : Fin 128) (d : Fin 256) :
    k0_pay78 p v (ix4 0 0 r d) = ∑ j : Fin 512, p (ix3 0 r j) * v (ix4 0 0 j d) := by
  pointwise [k0_pay78]

theorem inbP (n : Fin 6) : ∀ a, (![n.val, 0, 0] : Fin 3 → ℕ) a + S1x128x512.size a ≤ S6x128x512.size a := by
  have := n.isLt
  intro a; fin_cases a <;> simp <;> omega
theorem inbX (n : Fin 6) : ∀ a, (![0, n.val, 0, 0] : Fin 4 → ℕ) a + S1x1x512x256.size a ≤ S1x6x512x256.size a := by
  have := n.isLt
  intro a; fin_cases a <;> simp <;> omega
theorem inbO (n : Fin 6) : ∀ a, (![0, n.val, 0, 0] : Fin 4 → ℕ) a + S1x1x128x256.size a ≤ S1x6x128x256.size a := by
  have := n.isLt
  intro a; fin_cases a <;> simp <;> omega

section Out

variable (c : Dev nD) (i : grid0.Coords)
  (a2 : Memref sig .tc .vmem S1x10x128x256 .fp8e4m3) (h2 : a2.IsWhole) (a3 : Memref sig .tc .vmem S1x10x512x256 .fp8e4m3) (h3 : a3.IsWhole)
  (a4 : Memref sig .tc .vmem S1x6x512x256 .fp8e4m3) (h4 : a4.IsWhole) (a5 : Memref sig .tc .vmem S1x10x128x1 .f32) (h5 : a5.IsWhole)
  (a6 : Memref sig .tc .vmem S1x10x8x512 .f32) (h6 : a6.IsWhole) (a7 : Memref sig .tc .vmem S1x6x8x512 .f32) (h7 : a7.IsWhole)
  (a8 : Memref sig .tc .vmem S64x80 .f32) (h8 : a8.IsWhole) (a9 : Memref sig .tc .vmem S48x64 .f32) (h9 : a9.IsWhole)
  (a10 : Memref sig .tc .vmem S1x6x128x256 .f32) (h10 : a10.IsWhole) (a11 : Memref sig .tc .vmem S16x256x512 .bf16) (h11 : a11.IsWhole)
  (a12 : Memref sig .tc .vmem S6x128x512 .bf16) (h12 : a12.IsWhole)
  {x0 : Vec Ideal S1x10x128x256 .fp8e4m3} {x1 : Vec Ideal S1x10x512x256 .fp8e4m3} (x2 : Vec Ideal S1x6x512x256 .fp8e4m3)
  {x3 : Vec Ideal S1x10x128x1 .f32} {x4 : Vec Ideal S1x10x8x512 .f32} (x5 : Vec Ideal S1x6x8x512 .f32)
  {x6 : Vec Ideal S64x80 .f32} {x7 : Vec Ideal S48x64 .f32}

/-- The stores of the probabilities scratch after the loop. -/
def PB (x0 : Vec Ideal S1x10x128x256 .fp8e4m3) (x1 : Vec Ideal S1x10x512x256 .fp8e4m3) (x3 : Vec Ideal S1x10x128x1 .f32)
    (x4 : Vec Ideal S1x10x8x512 .f32) (x6 : Vec Ideal S64x80 .f32) (x7 : Vec Ideal S48x64 .f32) :
    List (View.Piece (Elt Ideal) S6x128x512 .bf16) :=
  pb_k0_t1 (F := Ideal) Variants.none c none i a2 h2 a3 h3 a4 h4 a5 h5 a6 h6 a7 h7 a8 h8 a9 h9 a10 h10 a11 h11 a12 h12
    (k0_pay16 x6) (k0_pay17 x6) (k0_pay18 x6) (k0_pay24 x7) (k0_pay25 x7) (0#32) (1#32) (h7.unread x5)
    (a11.view.writes (Elt Ideal) a11.view.junk (kernelRun0_A.sl.HS0_16 c a2 h2 a3 h3 a5 h5 a6 h6 x0 x1 x3 x4)) k0_t1_loop.trips

def ldW1 (x6 : Vec Ideal S64x80 .f32) : Vec Ideal S64x80 .f32 :=
  View.readAt (Elt Ideal) a8.view (Rect.unit (s := S64x80) ![0, 0] S64x80.size (by decide)).toLoadRect (h8.unread x6)
def ldW2 (x7 : Vec Ideal S48x64 .f32) : Vec Ideal S48x64 .f32 :=
  View.readAt (Elt Ideal) a9.view (Rect.unit (s := S48x64) ![0, 0] S48x64.size (by decide)).toLoadRect (h9.unread x7)

theorem ldW1_eq : ldW1 a8 h8 x6 = x6 := by
  unfold ldW1
  rw [View.readAt_eq_ld, h8.read_unread]
  exact View.ld_unit_zero (by decide) _ _
theorem ldW2_eq : ldW2 a9 h9 x7 = x7 := by
  unfold ldW2
  rw [View.readAt_eq_ld, h9.read_unread]
  exact View.ld_unit_zero (by decide) _ _

/-- The weights and the values of output head pair `n`, as the body loads them. -/
def ldP (L : List (View.Piece (Elt Ideal) S6x128x512 .bf16)) (n : Fin 6) : Vec Ideal S1x128x512 .bf16 :=
  a12.view.readCov L (Rect.unit (s := S6x128x512) ![n.val, 0, 0] S1x128x512.size (inbP n)).toLoadRect
def ldX (n : Fin 6) : Vec Ideal S1x1x512x256 .fp8e4m3 :=
  View.readAt (Elt Ideal) a4.view (Rect.unit (s := S1x6x512x256) ![0, n.val, 0, 0] S1x1x512x256.size (inbX n)).toLoadRect (h4.unread x2)

theorem ldX_apply (n : Fin 6) (j : Fin 512) (d : Fin 256) : ldX a4 h4 x2 n (ix4 0 0 j d) = x2 (ix4 0 n j d) := by
  unfold ldX
  rw [View.readAt_eq_ld, h4.read_unread]
  pointwise

/-- One stored piece of the output block. -/
def oP (L : List (View.Piece (Elt Ideal) S6x128x512 .bf16)) (n : Fin 6) : View.Piece (Elt Ideal) S1x6x128x256 .f32 :=
  ⟨Rect.unit (s := S1x6x128x256) ![0, n.val, 0, 0] S1x1x128x256.size (inbO n), k0_pay78 (ldP a12 L n) (ldX a4 h4 x2 n)⟩

theorem out_eq (y : S1x6x128x256.Idx) :
    out0_A_8 (F := Ideal) c i a2 h2 a3 h3 a4 h4 a5 h5 a6 h6 a7 h7 a8 h8 a9 h9 a10 h10 a11 h11 a12 h12
        x0 x1 x2 x3 x4 x5 x6 x7 y
      = View.canon [oP a4 h4 a12 x2 (PB c i a2 h2 a3 h3 a4 h4 a5 h5 a6 h6 a7 h7 a8 h8 a9 h9 a10 h10 a11 h11 a12 h12 x5 x0 x1 x3 x4 (ldW1 a8 h8 x6) (ldW2 a9 h9 x7)) 5,
        oP a4 h4 a12 x2 (PB c i a2 h2 a3 h3 a4 h4 a5 h5 a6 h6 a7 h7 a8 h8 a9 h9 a10 h10 a11 h11 a12 h12 x5 x0 x1 x3 x4 (ldW1 a8 h8 x6) (ldW2 a9 h9 x7)) 4,
        oP a4 h4 a12 x2 (PB c i a2 h2 a3 h3 a4 h4 a5 h5 a6 h6 a7 h7 a8 h8 a9 h9 a10 h10 a11 h11 a12 h12 x5 x0 x1 x3 x4 (ldW1 a8 h8 x6) (ldW2 a9 h9 x7)) 3,
        oP a4 h4 a12 x2 (PB c i a2 h2 a3 h3 a4 h4 a5 h5 a6 h6 a7 h7 a8 h8 a9 h9 a10 h10 a11 h11 a12 h12 x5 x0 x1 x3 x4 (ldW1 a8 h8 x6) (ldW2 a9 h9 x7)) 2,
        oP a4 h4 a12 x2 (PB c i a2 h2 a3 h3 a4 h4 a5 h5 a6 h6 a7 h7 a8 h8 a9 h9 a10 h10 a11 h11 a12 h12 x5 x0 x1 x3 x4 (ldW1 a8 h8 x6) (ldW2 a9 h9 x7)) 1,
        oP a4 h4 a12 x2 (PB c i a2 h2 a3 h3 a4 h4 a5 h5 a6 h6 a7 h7 a8 h8 a9 h9 a10 h10 a11 h11 a12 h12 x5 x0 x1 x3 x4 (ldW1 a8 h8 x6) (ldW2 a9 h9 x7)) 0] y := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5 x6 x7)]
  unfold kernelRun0_A
  rfl

variable (hx0 : ∀ i, IsReal (x0 i)) (hx1 : ∀ i, IsReal (x1 i)) (hx3 : ∀ i, IsReal (x3 i)) (hx4 : ∀ i, IsReal (x4 i))
  (hx6 : ∀ i, IsReal (x6 i)) (hx7 : ∀ i, IsReal (x7 i))

include hx0 hx1 hx3 hx4 hx6 hx7 in
theorem ldP_apply (m : Fin 6) (r : Fin 128) (j : Fin 512) :
    ldP a12 (PB c i a2 h2 a3 h3 a4 h4 a5 h5 a6 h6 a7 h7 a8 h8 a9 h9 a10 h10 a11 h11 a12 h12 x5 x0 x1 x3 x4 x6 x7) m (ix3 0 r j)
      = pG x0 x1 x3 x4 x5 x6 x7 m r j := by
  unfold ldP
  rw [View.readCov_eq_canon']
  refine Eq.trans (congrArg (View.canon _) ?_) (probs_apply Variants.none c none i a2 h2 a3 h3 a4 h4 a5 h5 a6 h6 a7 h7 a8 h8 a9 h9 a10 h10 a11 h11 a12 h12 x5 hx0 hx1 hx3 hx4
    hx6 hx7 (0#32) (1#32) _ ?_ m r j)
  · funext a
    apply Fin.ext
    match a with
    | ⟨0, _⟩ => show m.val + 1 * 0 = m.val; omega
    | ⟨1, _⟩ => show 0 + 1 * r.val = r.val; omega
    | ⟨2, _⟩ => show 0 + 1 * j.val = j.val; omega
  · intro k e t ht r j
    unfold ldS
    rw [View.readAt_writes_junk_eq_canon]
    refine (congrArg (View.canon _) ?_).trans (scratch_apply c a2 h2 a3 h3 a5 h5 a6 h6 x0 x1 x3 x4 hx0 hx1 hx3 hx4 (ix3 t r j))
    funext a
    apply Fin.ext
    have ho := off1_eq k e
    match a with
    | ⟨0, _⟩ =>
      have := congrFun ho 0
      show k0_off1 k (BitVec.ofNat 32 e.val) 0 + 1 * 0 = t.val
      rw [this, ht]; rfl
    | ⟨1, _⟩ =>
      have := congrFun ho 1
      show k0_off1 k (BitVec.ofNat 32 e.val) 1 + 1 * r.val = r.val
      rw [this]; show 0 + 1 * r.val = r.val; omega
    | ⟨2, _⟩ =>
      have := congrFun ho 2
      show k0_off1 k (BitVec.ofNat 32 e.val) 2 + 1 * j.val = j.val
      rw [this]; show 0 + 1 * j.val = j.val; omega

/-- The output block at an index. -/
def oG (x0 : Vec Ideal S1x10x128x256 .fp8e4m3) (x1 : Vec Ideal S1x10x512x256 .fp8e4m3) (x2 : Vec Ideal S1x6x512x256 .fp8e4m3)
    (x3 : Vec Ideal S1x10x128x1 .f32) (x4 : Vec Ideal S1x10x8x512 .f32) (x5 : Vec Ideal S1x6x8x512 .f32)
    (x6 : Vec Ideal S64x80 .f32) (x7 : Vec Ideal S48x64 .f32) : Vec Ideal S1x6x128x256 .f32 :=
  fun y => ∑ j : Fin 512, pG x0 x1 x3 x4 x5 x6 x7 (y 1) (y 2) j * x2 (ix4 0 (y 1) j (y 3))

include hx0 hx1 hx3 hx4 hx6 hx7 in
theorem oP_of (m : Fin 6) (x : (oP a4 h4 a12 x2 (PB c i a2 h2 a3 h3 a4 h4 a5 h5 a6 h6 a7 h7 a8 h8 a9 h9 a10 h10 a11 h11 a12 h12 x5 x0 x1 x3 x4 x6 x7) m).1.shape.Idx) :
    (oP a4 h4 a12 x2 (PB c i a2 h2 a3 h3 a4 h4 a5 h5 a6 h6 a7 h7 a8 h8 a9 h9 a10 h10 a11 h11 a12 h12 x5 x0 x1 x3 x4 x6 x7) m).2 x
      = oG x0 x1 x2 x3 x4 x5 x6 x7 ((oP a4 h4 a12 x2 (PB c i a2 h2 a3 h3 a4 h4 a5 h5 a6 h6 a7 h7 a8 h8 a9 h9 a10 h10 a11 h11 a12 h12 x5 x0 x1 x3 x4 x6 x7) m).1.emb x) := by
  obtain ⟨z, w, r, d, rfl⟩ : ∃ (z : Fin 1) (w : Fin 1) (r : Fin 128) (d : Fin 256), x = ix4 z w r d :=
    ⟨x 0, x 1, x 2, x 3, eq_ix4 x⟩
  obtain rfl : z = 0 := Subsingleton.elim _ _
  obtain rfl : w = 0 := Subsingleton.elim _ _
  have e : (oP a4 h4 a12 x2 (PB c i a2 h2 a3 h3 a4 h4 a5 h5 a6 h6 a7 h7 a8 h8 a9 h9 a10 h10 a11 h11 a12 h12 x5 x0 x1 x3 x4 x6 x7) m).1.emb (ix4 0 0 r d)
      = (ix4 0 m r d : S1x6x128x256.Idx) := by
    funext a
    apply Fin.ext
    match a with
    | ⟨0, _⟩ => rfl
    | ⟨1, _⟩ => show m.val + 1 * 0 = m.val; omega
    | ⟨2, _⟩ => show 0 + 1 * r.val = r.val; omega
    | ⟨3, _⟩ => show 0 + 1 * d.val = d.val; omega
  refine Eq.trans ?_ (congrArg (oG x0 x1 x2 x3 x4 x5 x6 x7) e.symm)
  refine (pv_apply _ _ r d).trans ?_
  show _ = ∑ j : Fin 512, pG x0 x1 x3 x4 x5 x6 x7 m r j * x2 (ix4 0 m j d)
  exact Finset.sum_congr rfl fun j _ => congrArg₂ (· * ·)
    (ldP_apply c i a2 h2 a3 h3 a4 h4 a5 h5 a6 h6 a7 h7 a8 h8 a9 h9 a10 h10 a11 h11 a12 h12 x5 hx0 hx1 hx3 hx4 hx6 hx7 m r j) (ldX_apply a4 h4 x2 m j d)

theorem mem_oP (L : List (View.Piece (Elt Ideal) S6x128x512 .bf16)) (m : Fin 6) (r : Fin 128) (d : Fin 256) :
    (ix4 0 m r d : S1x6x128x256.Idx) ∈ (oP a4 h4 a12 x2 L m).1.set := by
  show _ ∈ (Rect.unit (s := S1x6x128x256) ![0, m.val, 0, 0] S1x1x128x256.size (inbO m)).set
  rw [Rect.mem_set_unit]
  intro a
  match a with
  | ⟨0, _⟩ => exact ⟨Nat.zero_le _, by show 0 < 0 + 1; omega⟩
  | ⟨1, _⟩ => exact ⟨le_refl _, by show m.val < m.val + 1; omega⟩
  | ⟨2, _⟩ => exact ⟨Nat.zero_le _, by show r.val < 0 + 128; omega⟩
  | ⟨3, _⟩ => exact ⟨Nat.zero_le _, by show d.val < 0 + 256; omega⟩

include hx0 hx1 hx3 hx4 hx6 hx7 in
/-- The output block of one grid point. -/
theorem out_apply (y : S1x6x128x256.Idx) :
    out0_A_8 (F := Ideal) c i a2 h2 a3 h3 a4 h4 a5 h5 a6 h6 a7 h7 a8 h8 a9 h9 a10 h10 a11 h11 a12 h12
        x0 x1 x2 x3 x4 x5 x6 x7 y = oG x0 x1 x2 x3 x4 x5 x6 x7 y := by
  rw [out_eq, ldW1_eq, ldW2_eq]
  have key := oP_of c i a2 h2 a3 h3 a4 h4 a5 h5 a6 h6 a7 h7 a8 h8 a9 h9 a10 h10 a11 h11 a12 h12 x2 x5 hx0 hx1 hx3 hx4 hx6 hx7
  refine View.canon_apply_of_pieces (oG x0 x1 x2 x3 x4 x5 x6 x7) _ ?_ y ?_
  · refine List.forall_mem_cons.2 ⟨key 5, ?_⟩
    refine List.forall_mem_cons.2 ⟨key 4, ?_⟩
    refine List.forall_mem_cons.2 ⟨key 3, ?_⟩
    refine List.forall_mem_cons.2 ⟨key 2, ?_⟩
    refine List.forall_mem_cons.2 ⟨key 1, ?_⟩
    refine List.forall_mem_cons.2 ⟨key 0, ?_⟩
    exact fun p hp => absurd hp List.not_mem_nil
  · obtain ⟨z, m, r, d, rfl⟩ : ∃ (z : Fin 1) (m : Fin 6) (r : Fin 128) (d : Fin 256), y = ix4 z m r d :=
      ⟨y 0, y 1, y 2, y 3, eq_ix4 y⟩
    obtain rfl : z = 0 := Subsingleton.elim _ _
    match m with
    | ⟨0, _⟩ => exact ⟨_, List.mem_of_getElem? (i := 5) rfl, mem_oP a4 h4 a12 x2 _ 0 r d⟩
    | ⟨1, _⟩ => exact ⟨_, List.mem_of_getElem? (i := 4) rfl, mem_oP a4 h4 a12 x2 _ 1 r d⟩
    | ⟨2, _⟩ => exact ⟨_, List.mem_of_getElem? (i := 3) rfl, mem_oP a4 h4 a12 x2 _ 2 r d⟩
    | ⟨3, _⟩ => exact ⟨_, List.mem_of_getElem? (i := 2) rfl, mem_oP a4 h4 a12 x2 _ 3 r d⟩
    | ⟨4, _⟩ => exact ⟨_, List.mem_of_getElem? (i := 1) rfl, mem_oP a4 h4 a12 x2 _ 4 r d⟩
    | ⟨5, _⟩ => exact ⟨_, List.mem_of_getElem? (i := 0) rfl, mem_oP a4 h4 a12 x2 _ 5 r d⟩

end Out

end Cert.KernelIdeal.Body

end
-- ==== Proof.Spec.lean ====
/-
  The attention both programs compute, over the extended reals: scaled scores, logits mixed over the query/key heads, the
  softmax over the keys, weights mixed over the logit heads, and the weighted sum of the values.
-/
module

public import proofs.«01_k».proof.Proof.Maths
public import Idealize.ShloMosaic.Lib.Pointwise

@[expose] public section

noncomputable section

open Idealize.ShloMosaic

namespace Cert.Spec

abbrev Codes := Shape.Idx ⟨4, ![4, 512, 20, 96]⟩ → BitVec 8
abbrev Scales := Shape.Idx ⟨3, ![4, 512, 20]⟩ → EReal
abbrev Values := Shape.Idx ⟨4, ![4, 512, 12, 96]⟩ → EReal
abbrev VScales := Shape.Idx ⟨3, ![4, 512, 12]⟩ → EReal
abbrev W1 := Shape.Idx ⟨2, ![20, 16]⟩ → EReal
abbrev W2 := Shape.Idx ⟨2, ![16, 12]⟩ → EReal

variable (a0 : Codes) (a1 : Scales) (a2 : Codes) (a3 : Scales) (a4 : Values) (a5 : VScales) (a6 : W1) (a7 : W2)

/-- The extended real a byte encodes. -/
def code (x : BitVec 8) : EReal := Ideal.ofBits .fp8e4m3 x

/-- The scaled score of query `i` against key `j` in head `h`. -/
def score (b : Fin 4) (h : Fin 20) (i j : Fin 512) : EReal :=
  (∑ d : Fin 96, code (a0 (ix4 b i h d)) * code (a2 (ix4 b j h d))) * a1 (ix3 b i h) * a3 (ix3 b j h) * (((√96)⁻¹ : ℝ) : EReal)

/-- The logit of head `g`. -/
def logit (b : Fin 4) (g : Fin 16) (i j : Fin 512) : EReal := ∑ h : Fin 20, a6 (ix2 h g) * score a0 a1 a2 a3 b h i j

/-- The softmax of a row. -/
def softmax (l : Fin 512 → EReal) (j : Fin 512) : EReal :=
  Ideal.div (Ideal.exp (l j - Finset.univ.fold max (⊥ : EReal) l)) (∑ k, Ideal.exp (l k - Finset.univ.fold max (⊥ : EReal) l))

/-- The scaled weight of key `j` in output head `e`. -/
def weight (b : Fin 4) (e : Fin 12) (i j : Fin 512) : EReal :=
  (∑ g : Fin 16, a7 (ix2 g e) * softmax (logit a0 a1 a2 a3 a6 b g i) j) * a5 (ix3 b j e)

/-- The result at position `n = 96 e + d` of query `i`. -/
def out (b : Fin 4) (i : Fin 512) (n : Fin 1152) : EReal :=
  ∑ j : Fin 512, a4 (ix4 b j ⟨n / 96, by omega⟩ ⟨n % 96, by omega⟩)
    * weight a0 a1 a2 a3 a5 a6 a7 b ⟨n / 96, by omega⟩ i j

end Cert.Spec

end
-- ==== Proof.Arrays.lean ====
/-
  The arrays the kernel region reads, at an index, in terms of the arguments; and the blocks of them a grid point sees.
-/
module

public import proofs.«01_k».proof.Proof.Gen.KernelIdeal.Frame
public import proofs.«01_k».proof.Proof.Spec
public import Idealize.ShloMosaic.Lib.Pipeline.ValueKit
public import Idealize.ShloMosaic.Lib.StableHlo.ReadAt
public import Idealize.ShloMosaic.PureOps.Ideal
public import Idealize.ShloMosaic.Lib.Pointwise

@[expose] public section

set_option maxRecDepth 16384

noncomputable section

open Idealize.ShloMosaic Idealize.ShloMosaic.TcCoe Idealize.SL.Sem
open Cert.Spec

namespace Cert.KernelIdeal.Body

open Cert.KernelIdeal Cert.KernelIdeal.Gen

/-- The queries as the region reads them: rows interleave pairs of heads and groups of four queries, and each row holds its
    head's features in that head's half of the lanes. -/
def qA (a : Codes) (b : Fin 4) (h : Fin 10) (r : Fin 1024) (l : Fin 256) : EReal :=
  if w : r.val / 4 % 2 = l.val / 128 ∧ l.val % 128 < 96 then
    code (a (ix4 b ⟨r.val / 8 * 4 + r.val % 4, by omega⟩ ⟨h.val * 2 + r.val / 4 % 2, by omega⟩ ⟨l.val % 128, w.2⟩))
  else 0

/-- The keys as the region reads them: a pair of heads side by side, each padded to 128 lanes. -/
def kA (a : Codes) (b : Fin 4) (h : Fin 10) (j : Fin 512) (l : Fin 256) : EReal :=
  if w : l.val % 128 < 96 then code (a (ix4 b j ⟨h.val * 2 + l.val / 128, by omega⟩ ⟨l.val % 128, w⟩)) else 0

/-- The values as the region reads them. -/
def vA (a : Values) (b : Fin 4) (h : Fin 6) (j : Fin 512) (l : Fin 256) : EReal :=
  if w : l.val % 128 < 96 then a (ix4 b j ⟨h.val * 2 + l.val / 128, by omega⟩ ⟨l.val % 128, w⟩) else 0

theorem code_zero : Ideal.ofBits .fp8e4m3 0#8 = (0 : EReal) := by simp [Ideal.ofBits, Ideal.e4m3fn]

theorem select_eq {α : Type} (x y : ℕ) (hx : x < 2 ^ 32) (hy : y < 2 ^ 32) (u v : α) :
    Scalar.select (IntOp.cmpi .eq (BitVec.ofNat 32 x) (BitVec.ofNat 32 y)) u v = if x = y then u else v :=
  if_congr (WordCmp.cmpi_eq_ofNat_eq_one_iff hx hy) rfl rfl

/-- The identity matrix as the host writes it: a comparison of two counters, read as a float. -/
def delta (x y : ℕ) : EReal :=
  FloatOps.uitofp (F := Ideal) .f32 (IntOp.cmpi .eq (IntOp.addi (BitVec.ofNat 32 x) 0#32) (BitVec.ofNat 32 y))

theorem delta_eq (x y : ℕ) (hx : x < 2 ^ 32) (hy : y < 2 ^ 32) : delta x y = if x = y then 1 else 0 := by
  unfold delta
  have e : IntOp.addi (BitVec.ofNat 32 x) 0#32 = BitVec.ofNat 32 x := BitVec.add_zero _
  rw [e]
  by_cases hxy : x = y
  · rw [if_pos hxy, (WordCmp.cmpi_eq_ofNat_eq_one_iff hx hy).2 hxy]; simp [FloatOps.uitofp]
  · rw [if_neg hxy, (WordCmp.cmpi_eq_ofNat_eq_zero_iff hx hy).2 hxy]; simp [FloatOps.uitofp]

/-- `qA` as the host operations compute it. -/
def qR (a : Codes) (b : Fin 4) (h : Fin 10) (r : Fin 1024) (l : Fin 256) : EReal :=
  Scalar.select (IntOp.cmpi .eq (BitVec.ofNat 32 (r.val / 4 % 2)) (BitVec.ofNat 32 (l.val / 128)))
    (if w : r.val / 8 * 4 + r.val % 4 < 512 ∧ h.val * 2 + r.val / 4 % 2 < 20 ∧ l.val % 128 < 96 then
      Ideal.ofBits .fp8e4m3 (a (ix4 b ⟨r.val / 8 * 4 + r.val % 4, w.1⟩ ⟨h.val * 2 + r.val / 4 % 2, w.2.1⟩ ⟨l.val % 128, w.2.2⟩))
     else Ideal.ofBits .fp8e4m3 0#8) (Ideal.ofBits .fp8e4m3 0#8)

/-- `kA` as the host operations compute it. -/
def kR (a : Codes) (b : Fin 4) (h : Fin 10) (j : Fin 512) (l : Fin 256) : EReal :=
  if w : h.val * 2 + l.val / 128 < 20 ∧ l.val % 128 < 96 then
    Ideal.ofBits .fp8e4m3 (a (ix4 b j ⟨h.val * 2 + l.val / 128, w.1⟩ ⟨l.val % 128, w.2⟩)) else Ideal.ofBits .fp8e4m3 0#8

/-- `vA` as the host operations compute it. -/
def vR (a : Values) (b : Fin 4) (h : Fin 6) (j : Fin 512) (l : Fin 256) : EReal :=
  if w : h.val * 2 + l.val / 128 < 12 ∧ l.val % 128 < 96 then
    a (ix4 b j ⟨h.val * 2 + l.val / 128, w.1⟩ ⟨l.val % 128, w.2⟩) else Ideal.ofBits .fp8e4m3 0#8

theorem qR_eq (a : Codes) (b : Fin 4) (h : Fin 10) (r : Fin 1024) (l : Fin 256) : qR a b h r l = qA a b h r l := by
  unfold qR qA
  rw [select_eq _ _ (by omega) (by omega), code_zero]
  by_cases h1 : r.val / 4 % 2 = l.val / 128
  · by_cases h2 : l.val % 128 < 96
    · rw [if_pos h1, dif_pos ⟨by omega, by omega, h2⟩, dif_pos ⟨h1, h2⟩]; rfl
    · rw [if_pos h1, dif_neg (fun w => h2 w.2.2), dif_neg (fun w => h2 w.2)]
  · rw [if_neg h1, dif_neg (fun w => h1 w.1)]

theorem kR_eq (a : Codes) (b : Fin 4) (h : Fin 10) (j : Fin 512) (l : Fin 256) : kR a b h j l = kA a b h j l := by
  unfold kR kA
  rw [code_zero]
  by_cases h2 : l.val % 128 < 96
  · rw [dif_pos ⟨by omega, h2⟩, dif_pos h2]; rfl
  · rw [dif_neg (fun w => h2 w.2), dif_neg h2]

theorem vR_eq (a : Values) (b : Fin 4) (h : Fin 6) (j : Fin 512) (l : Fin 256) : vR a b h j l = vA a b h j l := by
  unfold vR vA
  rw [code_zero]
  by_cases h2 : l.val % 128 < 96
  · rw [dif_pos ⟨by omega, h2⟩, dif_pos h2]
  · rw [dif_neg (fun w => h2 w.2), dif_neg h2]

variable (m : (ℓ : Loc nD τ sig) → Buf (Elt Ideal) ℓ) (c : Dev nD)

theorem e15 (b : Fin 4) (h : Fin 10) (r : Fin 1024) (l : Fin 256) :
    (show EReal from V0 m c (Proc.devRef .tc main_v15) (ix4 b h r l)) = qR (m ((c.tc : Thread nD τ).loc main_arg0)) b h r l := by
  unfold V0 qR
  after_reads_at

theorem e18 (b : Fin 4) (h : Fin 10) (j : Fin 512) (l : Fin 256) :
    (show EReal from V0 m c (Proc.devRef .tc main_v18) (ix4 b h j l)) = kR (m ((c.tc : Thread nD τ).loc main_arg2)) b h j l := by
  unfold V0 kR
  after_reads_at

theorem e21 (b : Fin 4) (h : Fin 6) (j : Fin 512) (l : Fin 256) :
    (show EReal from V0 m c (Proc.devRef .tc main_v21) (ix4 b h j l)) = vR (m ((c.tc : Thread nD τ).loc main_arg4)) b h j l := by
  unfold V0 vR
  after_reads_at

theorem e24 (b : Fin 4) (h : Fin 10) (r : Fin 1024) :
    (show EReal from V0 m c (Proc.devRef .tc main_v24) (ix4 b h r 0)) = (show EReal from ((m ((c.tc : Thread nD τ).loc main_arg1)) : Scales) (ix3 b ⟨r.val / 8 * 4 + r.val % 4, by omega⟩ ⟨h.val * 2 + r.val / 4 % 2, by omega⟩)) := by
  unfold V0
  after_reads_at

theorem e28 (b : Fin 4) (h : Fin 10) (r : Fin 8) (j : Fin 512) :
    (show EReal from V0 m c (Proc.devRef .tc main_v28) (ix4 b h r j)) = (show EReal from ((m ((c.tc : Thread nD τ).loc main_arg3)) : Scales) (ix3 b j ⟨h.val * 2 + r.val / 4, by omega⟩)) := by
  unfold V0
  after_reads_at

theorem e32 (b : Fin 4) (h : Fin 6) (r : Fin 8) (j : Fin 512) :
    (show EReal from V0 m c (Proc.devRef .tc main_v32) (ix4 b h r j)) = (show EReal from ((m ((c.tc : Thread nD τ).loc main_arg5)) : VScales) (ix3 b j ⟨h.val * 2 + r.val / 4, by omega⟩)) := by
  unfold V0
  after_reads_at

theorem e45 (r : Fin 64) (j : Fin 80) :
    (show EReal from V0 m c (Proc.devRef .tc main_v45) (ix2 r j)) = (show EReal from ((m ((c.tc : Thread nD τ).loc main_arg6)) : W1) (ix2 ⟨j.val / 4, by omega⟩ ⟨r.val / 4, by omega⟩)) * delta (r.val % 4) (j.val % 4) := by
  unfold V0 delta
  after_reads_at

theorem e58 (r : Fin 48) (j : Fin 64) :
    (show EReal from V0 m c (Proc.devRef .tc main_v58) (ix2 r j)) = (show EReal from ((m ((c.tc : Thread nD τ).loc main_arg7)) : W2) (ix2 ⟨j.val / 4, by omega⟩ ⟨r.val / 4, by omega⟩)) * delta (r.val % 4) (j.val % 4) := by
  unfold V0 delta
  after_reads_at

/-- Where each window's block lies: point `t` is batch `t / 8` and query block `t % 8`. -/
theorem idx : ∀ t : Fin cfg0.N, (win0_0.index t = ![t.val / 8, 0, t.val % 8, 0] ∧ win0_1.index t = ![t.val / 8, 0, 0, 0] ∧ win0_2.index t = ![t.val / 8, 0, 0, 0])
    ∧ (win0_3.index t = ![t.val / 8, 0, t.val % 8, 0] ∧ win0_4.index t = ![t.val / 8, 0, 0, 0] ∧ win0_5.index t = ![t.val / 8, 0, 0, 0])
    ∧ win0_6.index t = ![0, 0] ∧ win0_7.index t = ![0, 0] ∧ win0_8.index t = ![t.val / 8, 0, t.val % 8, 0] :=
  (by decide +kernel : ∀ t : Fin grid0.N, _)

theorem N_eq : cfg0.N = 32 := by decide +kernel

/-- The batch of a grid point. -/
def bat (t : Fin cfg0.N) : Fin 4 := ⟨t.val / 8, by have := t.isLt; have := N_eq; omega⟩

/-- The row of the array a row of a grid point's block is. -/
def row (t : Fin cfg0.N) (r : Fin 128) : Fin 1024 := ⟨t.val % 8 * 128 + r.val, by omega⟩

theorem rd0 (A : Vec Ideal S4x10x1024x256 .fp8e4m3) (t : Fin cfg0.N) (h : Fin 10) (r : Fin 128) (l : Fin 256) :
    ((cfg0.win 0).blk t).view.read (Elt Ideal) A (ix4 0 h r l : S1x10x128x256.Idx) = A (ix4 (bat t) h (row t r) l) := by
  have hh : ((cfg0.win 0).blk t).view.emb (ix4 0 h r l : S1x10x128x256.Idx) = (ix4 (bat t) h (row t r) l : S4x10x1024x256.Idx) := by
    have e : win0_0.index t = ![t.val / 8, 0, t.val % 8, 0] := (idx t).1.1
    unfold bat row
    blk_ext [e]
  exact congrArg A hh

theorem iblk_eq0 (t : Fin cfg0.N) : iblk m c 0 t = ((cfg0.win 0).blk t).view.read (Elt Ideal) (V m c main_v15) := rfl

theorem x0_apply (t : Fin cfg0.N) (h : Fin 10) (r : Fin 128) (l : Fin 256) :
    (iblk m c 0 t : Vec Ideal S1x10x128x256 .fp8e4m3) (ix4 0 h r l) = qA (m ((c.tc : Thread nD τ).loc main_arg0)) (bat t) h (row t r) l := by
  have e : (V m c main_v15 : Vec Ideal S4x10x1024x256 .fp8e4m3) (ix4 (bat t) h (row t r) l) = _ := (e15 m c (bat t) h (row t r) l).trans (qR_eq _ _ _ _ _)
  refine Eq.trans ?_ e
  rw [iblk_eq0]
  generalize V m c main_v15 = X
  exact rd0 X t h r l

theorem rd1 (A : Vec Ideal S4x10x512x256 .fp8e4m3) (t : Fin cfg0.N) (h : Fin 10) (j : Fin 512) (l : Fin 256) :
    ((cfg0.win 1).blk t).view.read (Elt Ideal) A (ix4 0 h j l : S1x10x512x256.Idx) = A (ix4 (bat t) h j l) := by
  have hh : ((cfg0.win 1).blk t).view.emb (ix4 0 h j l : S1x10x512x256.Idx) = (ix4 (bat t) h j l : S4x10x512x256.Idx) := by
    have e : win0_1.index t = ![t.val / 8, 0, 0, 0] := (idx t).1.2.1
    unfold bat
    blk_ext [e]
  exact congrArg A hh

theorem iblk_eq1 (t : Fin cfg0.N) : iblk m c 1 t = ((cfg0.win 1).blk t).view.read (Elt Ideal) (V m c main_v18) := rfl

theorem x1_apply (t : Fin cfg0.N) (h : Fin 10) (j : Fin 512) (l : Fin 256) :
    (iblk m c 1 t : Vec Ideal S1x10x512x256 .fp8e4m3) (ix4 0 h j l) = kA (m ((c.tc : Thread nD τ).loc main_arg2)) (bat t) h j l := by
  have e : (V m c main_v18 : Vec Ideal S4x10x512x256 .fp8e4m3) (ix4 (bat t) h j l) = _ := (e18 m c (bat t) h j l).trans (kR_eq _ _ _ _ _)
  refine Eq.trans ?_ e
  rw [iblk_eq1]
  generalize V m c main_v18 = X
  exact rd1 X t h j l

theorem rd2 (A : Vec Ideal S4x6x512x256 .fp8e4m3) (t : Fin cfg0.N) (h : Fin 6) (j : Fin 512) (l : Fin 256) :
    ((cfg0.win 2).blk t).view.read (Elt Ideal) A (ix4 0 h j l : S1x6x512x256.Idx) = A (ix4 (bat t) h j l) := by
  have hh : ((cfg0.win 2).blk t).view.emb (ix4 0 h j l : S1x6x512x256.Idx) = (ix4 (bat t) h j l : S4x6x512x256.Idx) := by
    have e : win0_2.index t = ![t.val / 8, 0, 0, 0] := (idx t).1.2.2
    unfold bat
    blk_ext [e]
  exact congrArg A hh

theorem iblk_eq2 (t : Fin cfg0.N) : iblk m c 2 t = ((cfg0.win 2).blk t).view.read (Elt Ideal) (V m c main_v21) := rfl

theorem x2_apply (t : Fin cfg0.N) (h : Fin 6) (j : Fin 512) (l : Fin 256) :
    (iblk m c 2 t : Vec Ideal S1x6x512x256 .fp8e4m3) (ix4 0 h j l) = vA (m ((c.tc : Thread nD τ).loc main_arg4)) (bat t) h j l := by
  have e : (V m c main_v21 : Vec Ideal S4x6x512x256 .fp8e4m3) (ix4 (bat t) h j l) = _ := (e21 m c (bat t) h j l).trans (vR_eq _ _ _ _ _)
  refine Eq.trans ?_ e
  rw [iblk_eq2]
  generalize V m c main_v21 = X
  exact rd2 X t h j l

theorem rd3 (A : Vec Ideal S4x10x1024x1 .f32) (t : Fin cfg0.N) (h : Fin 10) (r : Fin 128) :
    ((cfg0.win 3).blk t).view.read (Elt Ideal) A (ix4 0 h r 0 : S1x10x128x1.Idx) = A (ix4 (bat t) h (row t r) 0) := by
  have hh : ((cfg0.win 3).blk t).view.emb (ix4 0 h r 0 : S1x10x128x1.Idx) = (ix4 (bat t) h (row t r) 0 : S4x10x1024x1.Idx) := by
    have e : win0_3.index t = ![t.val / 8, 0, t.val % 8, 0] := (idx t).2.1.1
    unfold bat row
    blk_ext [e]
  exact congrArg A hh

theorem iblk_eq3 (t : Fin cfg0.N) : iblk m c 3 t = ((cfg0.win 3).blk t).view.read (Elt Ideal) (V m c main_v24) := rfl

theorem x3_apply (t : Fin cfg0.N) (h : Fin 10) (r : Fin 128) :
    (iblk m c 3 t : Vec Ideal S1x10x128x1 .f32) (ix4 0 h r 0) = ((m ((c.tc : Thread nD τ).loc main_arg1)) : Scales) (ix3 (bat t) ⟨(row t r).val / 8 * 4 + (row t r).val % 4, by omega⟩ ⟨h.val * 2 + (row t r).val / 4 % 2, by omega⟩) := by
  have e : (V m c main_v24 : Vec Ideal S4x10x1024x1 .f32) (ix4 (bat t) h (row t r) 0) = _ := e24 m c (bat t) h (row t r)
  refine Eq.trans ?_ e
  rw [iblk_eq3]
  generalize V m c main_v24 = X
  exact rd3 X t h r

theorem rd4 (A : Vec Ideal S4x10x8x512 .f32) (t : Fin cfg0.N) (h : Fin 10) (r : Fin 8) (j : Fin 512) :
    ((cfg0.win 4).blk t).view.read (Elt Ideal) A (ix4 0 h r j : S1x10x8x512.Idx) = A (ix4 (bat t) h r j) := by
  have hh : ((cfg0.win 4).blk t).view.emb (ix4 0 h r j : S1x10x8x512.Idx) = (ix4 (bat t) h r j : S4x10x8x512.Idx) := by
    have e : win0_4.index t = ![t.val / 8, 0, 0, 0] := (idx t).2.1.2.1
    unfold bat
    blk_ext [e]
  exact congrArg A hh

theorem iblk_eq4 (t : Fin cfg0.N) : iblk m c 4 t = ((cfg0.win 4).blk t).view.read (Elt Ideal) (V m c main_v28) := rfl

theorem x4_apply (t : Fin cfg0.N) (h : Fin 10) (r : Fin 8) (j : Fin 512) :
    (iblk m c 4 t : Vec Ideal S1x10x8x512 .f32) (ix4 0 h r j) = ((m ((c.tc : Thread nD τ).loc main_arg3)) : Scales) (ix3 (bat t) j ⟨h.val * 2 + r.val / 4, by omega⟩) := by
  have e : (V m c main_v28 : Vec Ideal S4x10x8x512 .f32) (ix4 (bat t) h r j) = _ := e28 m c (bat t) h r j
  refine Eq.trans ?_ e
  rw [iblk_eq4]
  generalize V m c main_v28 = X
  exact rd4 X t h r j

theorem rd5 (A : Vec Ideal S4x6x8x512 .f32) (t : Fin cfg0.N) (h : Fin 6) (r : Fin 8) (j : Fin 512) :
    ((cfg0.win 5).blk t).view.read (Elt Ideal) A (ix4 0 h r j : S1x6x8x512.Idx) = A (ix4 (bat t) h r j) := by
  have hh : ((cfg0.win 5).blk t).view.emb (ix4 0 h r j : S1x6x8x512.Idx) = (ix4 (bat t) h r j : S4x6x8x512.Idx) := by
    have e : win0_5.index t = ![t.val / 8, 0, 0, 0] := (idx t).2.1.2.2
    unfold bat
    blk_ext [e]
  exact congrArg A hh

theorem iblk_eq5 (t : Fin cfg0.N) : iblk m c 5 t = ((cfg0.win 5).blk t).view.read (Elt Ideal) (V m c main_v32) := rfl

theorem x5_apply (t : Fin cfg0.N) (h : Fin 6) (r : Fin 8) (j : Fin 512) :
    (iblk m c 5 t : Vec Ideal S1x6x8x512 .f32) (ix4 0 h r j) = ((m ((c.tc : Thread nD τ).loc main_arg5)) : VScales) (ix3 (bat t) j ⟨h.val * 2 + r.val / 4, by omega⟩) := by
  have e : (V m c main_v32 : Vec Ideal S4x6x8x512 .f32) (ix4 (bat t) h r j) = _ := e32 m c (bat t) h r j
  refine Eq.trans ?_ e
  rw [iblk_eq5]
  generalize V m c main_v32 = X
  exact rd5 X t h r j

theorem rd6 (A : Vec Ideal S64x80 .f32) (t : Fin cfg0.N) (r : Fin 64) (j : Fin 80) :
    ((cfg0.win 6).blk t).view.read (Elt Ideal) A (ix2 r j : S64x80.Idx) = A (ix2 r j) := by
  have hh : ((cfg0.win 6).blk t).view.emb (ix2 r j : S64x80.Idx) = (ix2 r j : S64x80.Idx) := by
    have e : win0_6.index t = ![0, 0] := (idx t).2.2.1
    blk_ext [e]
  exact congrArg A hh

theorem iblk_eq6 (t : Fin cfg0.N) : iblk m c 6 t = ((cfg0.win 6).blk t).view.read (Elt Ideal) (V m c main_v45) := rfl

theorem x6_apply (t : Fin cfg0.N) (r : Fin 64) (j : Fin 80) :
    (iblk m c 6 t : Vec Ideal S64x80 .f32) (ix2 r j) = (show EReal from ((m ((c.tc : Thread nD τ).loc main_arg6)) : W1) (ix2 ⟨j.val / 4, by omega⟩ ⟨r.val / 4, by omega⟩)) * (if r.val % 4 = j.val % 4 then 1 else 0) := by
  have e : (V m c main_v45 : Vec Ideal S64x80 .f32) (ix2 r j) = _ := (e45 m c r j).trans (congrArg₂ (· * ·) rfl (delta_eq _ _ (by omega) (by omega)))
  refine Eq.trans ?_ e
  rw [iblk_eq6]
  generalize V m c main_v45 = X
  exact rd6 X t r j

theorem rd7 (A : Vec Ideal S48x64 .f32) (t : Fin cfg0.N) (r : Fin 48) (j : Fin 64) :
    ((cfg0.win 7).blk t).view.read (Elt Ideal) A (ix2 r j : S48x64.Idx) = A (ix2 r j) := by
  have hh : ((cfg0.win 7).blk t).view.emb (ix2 r j : S48x64.Idx) = (ix2 r j : S48x64.Idx) := by
    have e : win0_7.index t = ![0, 0] := (idx t).2.2.2.1
    blk_ext [e]
  exact congrArg A hh

theorem iblk_eq7 (t : Fin cfg0.N) : iblk m c 7 t = ((cfg0.win 7).blk t).view.read (Elt Ideal) (V m c main_v58) := rfl

theorem x7_apply (t : Fin cfg0.N) (r : Fin 48) (j : Fin 64) :
    (iblk m c 7 t : Vec Ideal S48x64 .f32) (ix2 r j) = (show EReal from ((m ((c.tc : Thread nD τ).loc main_arg7)) : W2) (ix2 ⟨j.val / 4, by omega⟩ ⟨r.val / 4, by omega⟩)) * (if r.val % 4 = j.val % 4 then 1 else 0) := by
  have e : (V m c main_v58 : Vec Ideal S48x64 .f32) (ix2 r j) = _ := (e58 m c r j).trans (congrArg₂ (· * ·) rfl (delta_eq _ _ (by omega) (by omega)))
  refine Eq.trans ?_ e
  rw [iblk_eq7]
  generalize V m c main_v58 = X
  exact rd7 X t r j

end Cert.KernelIdeal.Body

end
-- ==== Proof.Equation.lean ====
/-
  One grid point computes its block of the attention: the padded and interleaved sums of the body reduce to the sums over
  heads and features, and the base-two softmax to the natural one.
-/
module

public import proofs.«01_k».proof.Proof.Body
public import proofs.«01_k».proof.Proof.Arrays

@[expose] public section

set_option maxRecDepth 16384

noncomputable section

open Idealize.ShloMosaic Idealize.ShloMosaic.TcCoe Idealize.SL.Sem
open Cert.Maths Cert.Spec

namespace Cert.KernelIdeal.Body

open Cert.KernelIdeal Cert.KernelIdeal.Gen

theorem qA_at (a : Codes) (b : Fin 4) (h : Fin 10) (r : Fin 1024) (l : Fin 256) (i : Fin 512) (g : Fin 20) (d : Fin 96)
    (h1 : r.val / 4 % 2 = l.val / 128) (h2 : l.val % 128 = d.val) (h3 : r.val / 8 * 4 + r.val % 4 = i.val)
    (h4 : h.val * 2 + r.val / 4 % 2 = g.val) : qA a b h r l = code (a (ix4 b i g d)) := by
  obtain ⟨i, hi⟩ := i; obtain ⟨g, hg⟩ := g; obtain ⟨d, hd⟩ := d
  simp only at h2 h3 h4
  subst h2 h3 h4
  exact dif_pos ⟨h1, hd⟩

theorem qA_off (a : Codes) (b : Fin 4) (h : Fin 10) (r : Fin 1024) (l : Fin 256)
    (w : ¬ (r.val / 4 % 2 = l.val / 128 ∧ l.val % 128 < 96)) : qA a b h r l = 0 := dif_neg w

theorem kA_at (a : Codes) (b : Fin 4) (h : Fin 10) (j : Fin 512) (l : Fin 256) (g : Fin 20) (d : Fin 96)
    (h2 : l.val % 128 = d.val) (h4 : h.val * 2 + l.val / 128 = g.val) : kA a b h j l = code (a (ix4 b j g d)) := by
  obtain ⟨g, hg⟩ := g; obtain ⟨d, hd⟩ := d
  simp only at h2 h4
  subst h2 h4
  exact dif_pos hd

theorem vA_at (a : Values) (b : Fin 4) (h : Fin 6) (j : Fin 512) (l : Fin 256) (g : Fin 12) (d : Fin 96)
    (h2 : l.val % 128 = d.val) (h4 : h.val * 2 + l.val / 128 = g.val) : vA a b h j l = a (ix4 b j g d) := by
  obtain ⟨g, hg⟩ := g; obtain ⟨d, hd⟩ := d
  simp only at h2 h4
  subst h2 h4
  exact dif_pos hd

theorem qA_real {a : Codes} (ha : ∀ i, IsReal (code (a i))) (b : Fin 4) (h : Fin 10) (r : Fin 1024) (l : Fin 256) : IsReal (qA a b h r l) := by
  unfold qA; split_ifs
  · exact ha _
  · exact IsReal.zero

theorem kA_real {a : Codes} (ha : ∀ i, IsReal (code (a i))) (b : Fin 4) (h : Fin 10) (j : Fin 512) (l : Fin 256) : IsReal (kA a b h j l) := by
  unfold kA; split_ifs
  · exact ha _
  · exact IsReal.zero

theorem eye_real {x : EReal} (hx : IsReal x) (p : Prop) [Decidable p] : IsReal (x * if p then 1 else 0) := by
  split_ifs
  · exact hx.mul IsReal.one
  · exact hx.mul IsReal.zero

theorem sm2_eq (l : Fin 512 → EReal) (hl : ∀ x, IsReal (l x)) (j : Fin 512) :
    sm2 (fun j' => l j' * (((Real.log 2)⁻¹ : ℝ) : EReal)) j = softmax l j := by
  choose r hr using hl
  obtain rfl : l = fun x => ((r x : ℝ) : EReal) := funext hr
  have h := (softmax_eq (by omega) r j).1
  simp only [EReal.coe_mul] at h
  exact h

section Score

variable (a0 : Codes) (a1 : Scales) (a2 : Codes) (a3 : Scales) (a6 : W1)

theorem score_real {a0 : Codes} {a1 : Scales} {a2 : Codes} {a3 : Scales} (h0 : ∀ i, IsReal (code (a0 i))) (h1 : ∀ i, IsReal (a1 i))
    (h2 : ∀ i, IsReal (code (a2 i))) (h3 : ∀ i, IsReal (a3 i)) (b : Fin 4) (h : Fin 20) (i j : Fin 512) : IsReal (score a0 a1 a2 a3 b h i j) :=
  (((IsReal.sum fun d => (h0 _).mul (h2 _)).mul (h1 _)).mul (h3 _)).mul (IsReal.coe _)

end Score

variable (m : (ℓ : Loc nD τ sig) → Buf (Elt Ideal) ℓ) (c : Dev nD)

/-- The arguments, as arrays. -/
abbrev ar0 : Codes := m ((c.tc : Thread nD τ).loc main_arg0)
abbrev ar1 : Scales := m ((c.tc : Thread nD τ).loc main_arg1)
abbrev ar2 : Codes := m ((c.tc : Thread nD τ).loc main_arg2)
abbrev ar3 : Scales := m ((c.tc : Thread nD τ).loc main_arg3)
abbrev ar4 : Values := m ((c.tc : Thread nD τ).loc main_arg4)
abbrev ar5 : VScales := m ((c.tc : Thread nD τ).loc main_arg5)
abbrev ar6 : W1 := m ((c.tc : Thread nD τ).loc main_arg6)
abbrev ar7 : W2 := m ((c.tc : Thread nD τ).loc main_arg7)

/-- What the claim assumes: queries, keys, their scales and the mixing matrices are real numbers. -/
structure Reals : Prop where
  h0 : ∀ i, IsReal (code (ar0 m c i))
  h1 : ∀ i, IsReal (ar1 m c i)
  h2 : ∀ i, IsReal (code (ar2 m c i))
  h3 : ∀ i, IsReal (ar3 m c i)
  h6 : ∀ i, IsReal (ar6 m c i)
  h7 : ∀ i, IsReal (ar7 m c i)

variable {m c}

theorem eq_ix4_zero {n1 n2 n3 : ℕ} (f : (⟨4, ![1, n1, n2, n3]⟩ : Shape).Idx) : f = ix4 0 (f 1) (f 2) (f 3) := by
  funext a
  match a with
  | ⟨0, _⟩ => exact Subsingleton.elim (α := Fin 1) _ _
  | ⟨1, _⟩ => rfl
  | ⟨2, _⟩ => rfl
  | ⟨3, _⟩ => rfl

theorem eq_ix4_zero_zero {n1 n2 : ℕ} (f : (⟨4, ![1, n1, n2, 1]⟩ : Shape).Idx) : f = ix4 0 (f 1) (f 2) 0 := by
  funext a
  match a with
  | ⟨0, _⟩ => exact Subsingleton.elim (α := Fin 1) _ _
  | ⟨1, _⟩ => rfl
  | ⟨2, _⟩ => rfl
  | ⟨3, _⟩ => exact Subsingleton.elim (α := Fin 1) _ _

theorem Reals.x0 (H : Reals m c) (t : Fin cfg0.N) (i : S1x10x128x256.Idx) : IsReal ((iblk m c 0 t : Vec Ideal S1x10x128x256 .fp8e4m3) i) := by
  rw [eq_ix4_zero i]
  exact (x0_apply m c t (i 1) (i 2) (i 3)).symm ▸ qA_real H.h0 _ _ _ _

theorem Reals.x1 (H : Reals m c) (t : Fin cfg0.N) (i : S1x10x512x256.Idx) : IsReal ((iblk m c 1 t : Vec Ideal S1x10x512x256 .fp8e4m3) i) := by
  rw [eq_ix4_zero i]
  exact (x1_apply m c t (i 1) (i 2) (i 3)).symm ▸ kA_real H.h2 _ _ _ _

theorem Reals.x3 (H : Reals m c) (t : Fin cfg0.N) (i : S1x10x128x1.Idx) : IsReal ((iblk m c 3 t : Vec Ideal S1x10x128x1 .f32) i) := by
  rw [eq_ix4_zero_zero i]
  exact (x3_apply m c t (i 1) (i 2)).symm ▸ H.h1 _

theorem Reals.x4 (H : Reals m c) (t : Fin cfg0.N) (i : S1x10x8x512.Idx) : IsReal ((iblk m c 4 t : Vec Ideal S1x10x8x512 .f32) i) := by
  rw [eq_ix4_zero i]
  exact (x4_apply m c t (i 1) (i 2) (i 3)).symm ▸ H.h3 _

theorem Reals.x6 (H : Reals m c) (t : Fin cfg0.N) (i : S64x80.Idx) : IsReal ((iblk m c 6 t : Vec Ideal S64x80 .f32) i) := by
  rw [eq_ix2 i]
  exact (x6_apply m c t (i 0) (i 1)).symm ▸ eye_real (H.h6 _) _

theorem Reals.x7 (H : Reals m c) (t : Fin cfg0.N) (i : S48x64.Idx) : IsReal ((iblk m c 7 t : Vec Ideal S48x64 .f32) i) := by
  rw [eq_ix2 i]
  exact (x7_apply m c t (i 0) (i 1)).symm ▸ eye_real (H.h7 _) _

variable (m c)

/-- The query that row `r` of the array belongs to. -/
def qry (r : Fin 1024) : Fin 512 := ⟨r.val / 8 * 4 + r.val % 4, by omega⟩

/-- The query `i` of tile `tt` of grid point `t`. -/
def tileQ (t : Fin cfg0.N) (tt : Fin 16) (i : Fin 4) : Fin 512 := ⟨(t.val % 8 * 16 + tt.val) * 4 + i.val, by omega⟩

theorem sum_qk (t : Fin cfg0.N) (tt : Fin 16) (r : Fin 80) (j : Fin 512) :
    ∑ x : Fin 256, qA (ar0 m c) (bat t) ⟨r.val / 8, by omega⟩ (row t ⟨tt.val * 8 + r.val % 8, by omega⟩) x * kA (ar2 m c) (bat t) ⟨r.val / 8, by omega⟩ j x
      = ∑ d : Fin 96, code (ar0 m c (ix4 (bat t) (tileQ t tt ⟨r.val % 4, by omega⟩) ⟨r.val / 4, by omega⟩ d))
          * code (ar2 m c (ix4 (bat t) j ⟨r.val / 4, by omega⟩ d)) := by
  refine sum_half (m := 96) (by omega) _ _ ⟨r.val % 8 / 4, by omega⟩ (fun d => ?_) (fun x hx => ?_)
  · have hd := d.isLt
    refine congrArg₂ (· * ·) (qA_at _ _ _ _ _ _ _ _ ?_ ?_ ?_ ?_) (kA_at _ _ _ _ _ _ _ ?_ ?_) <;> simp only [row, tileQ] <;> omega
  · refine (congrArg (· * _) (qA_off _ _ _ _ _ ?_)).trans (zero_mul _)
    intro w
    simp only [row] at w hx
    omega

theorem logit_real {m c} (H : Reals m c) (b : Fin 4) (g : Fin 16) (i j : Fin 512) :
    IsReal (logit (ar0 m c) (ar1 m c) (ar2 m c) (ar3 m c) (ar6 m c) b g i j) :=
  IsReal.sum fun h => (H.h6 _).mul (score_real H.h0 H.h1 H.h2 H.h3 _ _ _ _)

/-- The blocks a grid point reads, each as its entries of the arguments. -/
structure Blocks (t : Fin cfg0.N) (x0 : Vec Ideal S1x10x128x256 .fp8e4m3) (x1 : Vec Ideal S1x10x512x256 .fp8e4m3)
    (x2 : Vec Ideal S1x6x512x256 .fp8e4m3) (x3 : Vec Ideal S1x10x128x1 .f32) (x4 : Vec Ideal S1x10x8x512 .f32)
    (x5 : Vec Ideal S1x6x8x512 .f32) (x6 : Vec Ideal S64x80 .f32) (x7 : Vec Ideal S48x64 .f32) : Prop where
  e0 : ∀ h r l, x0 (ix4 0 h r l) = qA (ar0 m c) (bat t) h (row t r) l
  e1 : ∀ h j l, x1 (ix4 0 h j l) = kA (ar2 m c) (bat t) h j l
  e2 : ∀ h j l, x2 (ix4 0 h j l) = vA (ar4 m c) (bat t) h j l
  e3 : ∀ (h : Fin 10) (r : Fin 128), x3 (ix4 0 h r 0) = ar1 m c (ix3 (bat t) (qry (row t r)) ⟨h.val * 2 + (row t r).val / 4 % 2, by omega⟩)
  e4 : ∀ (h : Fin 10) (r : Fin 8) (j : Fin 512), x4 (ix4 0 h r j) = ar3 m c (ix3 (bat t) j ⟨h.val * 2 + r.val / 4, by omega⟩)
  e5 : ∀ (h : Fin 6) (r : Fin 8) (j : Fin 512), x5 (ix4 0 h r j) = ar5 m c (ix3 (bat t) j ⟨h.val * 2 + r.val / 4, by omega⟩)
  e6 : ∀ (r : Fin 64) (j : Fin 80), x6 (ix2 r j) = ar6 m c (ix2 ⟨j.val / 4, by omega⟩ ⟨r.val / 4, by omega⟩) * (if r.val % 4 = j.val % 4 then 1 else 0)
  e7 : ∀ (r : Fin 48) (j : Fin 64), x7 (ix2 r j) = ar7 m c (ix2 ⟨j.val / 4, by omega⟩ ⟨r.val / 4, by omega⟩) * (if r.val % 4 = j.val % 4 then 1 else 0)

theorem blocks (t : Fin cfg0.N) : Blocks m c t (iblk m c 0 t) (iblk m c 1 t) (iblk m c 2 t) (iblk m c 3 t) (iblk m c 4 t) (iblk m c 5 t)
    (iblk m c 6 t) (iblk m c 7 t) :=
  ⟨x0_apply m c t, x1_apply m c t, x2_apply m c t, x3_apply m c t, x4_apply m c t, x5_apply m c t, x6_apply m c t, x7_apply m c t⟩

variable {m c} {t : Fin cfg0.N} {x0 : Vec Ideal S1x10x128x256 .fp8e4m3} {x1 : Vec Ideal S1x10x512x256 .fp8e4m3}
  {x2 : Vec Ideal S1x6x512x256 .fp8e4m3} {x3 : Vec Ideal S1x10x128x1 .f32} {x4 : Vec Ideal S1x10x8x512 .f32}
  {x5 : Vec Ideal S1x6x8x512 .f32} {x6 : Vec Ideal S64x80 .f32} {x7 : Vec Ideal S48x64 .f32}
  (B : Blocks m c t x0 x1 x2 x3 x4 x5 x6 x7)
include B

theorem sc_eq (tt : Fin 16) (r : Fin 80) (j : Fin 512) :
    sc x0 x1 x3 x4 tt r j
      = score (ar0 m c) (ar1 m c) (ar2 m c) (ar3 m c) (bat t) ⟨r.val / 4, by omega⟩ (tileQ t tt ⟨r.val % 4, by omega⟩) j
        * (((Real.log 2)⁻¹ : ℝ) : EReal) := by
  have e0 : (∑ x : Fin 256, x0 (ix4 0 ⟨r.val / 8, by omega⟩ ⟨tt.val * 8 + r.val % 8, by omega⟩ x)
      * x1 (ix4 0 ⟨r.val / 8, by omega⟩ j x)) = _ :=
    (Finset.sum_congr rfl fun x _ => congrArg₂ (· * ·) (B.e0 _ _ x) (B.e1 _ j x)).trans (sum_qk m c t tt r j)
  have e3 : x3 (ix4 0 ⟨r.val / 8, by omega⟩ ⟨tt.val * 8 + r.val % 8, by omega⟩ 0)
      = ar1 m c (ix3 (bat t) (tileQ t tt ⟨r.val % 4, by omega⟩) ⟨r.val / 4, by omega⟩) := by
    refine (B.e3 _ _).trans (congrArg (ar1 m c) (congrArg₂ (ix3 (bat t)) (Fin.ext ?_) (Fin.ext ?_))) <;> simp only [row, tileQ, qry] <;> omega
  have e4 : x4 (ix4 0 ⟨r.val / 8, by omega⟩ ⟨r.val % 8, by omega⟩ j)
      = ar3 m c (ix3 (bat t) j ⟨r.val / 4, by omega⟩) := by
    refine (B.e4 _ _ j).trans (congrArg (ar3 m c) (congrArg (ix3 (bat t) j) (Fin.ext ?_))); simp only; omega
  unfold sc score kap
  refine (congrArg₂ (· * ·) (congrArg₂ (· * ·) e0 e3) (congrArg (· * _) e4)).trans ?_
  rw [EReal.coe_mul]
  simp only [mul_assoc]

theorem lgt_eq (H : Reals m c) (tt : Fin 16) (k : Fin 64) (j : Fin 512) :
    ∑ k' : Fin 80, x6 (ix2 k k') * sc x0 x1 x3 x4 tt k' j
      = logit (ar0 m c) (ar1 m c) (ar2 m c) (ar3 m c) (ar6 m c) (bat t) ⟨k.val / 4, by omega⟩ (tileQ t tt ⟨k.val % 4, by omega⟩) j
        * (((Real.log 2)⁻¹ : ℝ) : EReal) := by
  refine (sum_eye (m := 20) 80 rfl _ (fun h => (ar6 m c (ix2 h ⟨k.val / 4, by omega⟩)
    * score (ar0 m c) (ar1 m c) (ar2 m c) (ar3 m c) (bat t) h (tileQ t tt ⟨k.val % 4, by omega⟩) j) * (((Real.log 2)⁻¹ : ℝ) : EReal))
    ⟨k.val % 4, by omega⟩ (fun h => ?_) (fun k' hk => ?_)).trans (sum_mul_real (fun h => (H.h6 _).mul (score_real H.h0 H.h1 H.h2 H.h3 _ _ _ _)) _)
  · rw [mul_assoc]
    refine congrArg₂ (· * ·) ((B.e6 _ _).trans ?_) ((sc_eq B tt _ j).trans ?_)
    · rw [if_pos (by simp only; omega), mul_one]
      refine congrArg (ar6 m c) (congrArg₂ ix2 (Fin.ext ?_) rfl); simp only; omega
    · refine congrArg (· * _) (congrArg₂ (fun x y => score _ _ _ _ _ x (tileQ t tt y) j) (Fin.ext ?_) (Fin.ext ?_)) <;> simp only <;> omega
  · refine (congrArg (· * _) (B.e6 k k')).trans ?_
    rw [if_neg (fun h => hk h.symm), mul_zero, zero_mul]

theorem wts_eq (H : Reals m c) (tt : Fin 16) (r : Fin 48) (j : Fin 512) :
    wts x0 x1 x3 x4 x6 x7 tt r j
      = ∑ g : Fin 16, ar7 m c (ix2 g ⟨r.val / 4, by omega⟩)
          * softmax (logit (ar0 m c) (ar1 m c) (ar2 m c) (ar3 m c) (ar6 m c) (bat t) g (tileQ t tt ⟨r.val % 4, by omega⟩)) j := by
  unfold wts
  refine sum_eye (m := 16) 64 rfl _ _ ⟨r.val % 4, by omega⟩ (fun g => ?_) (fun k hk => ?_)
  · refine congrArg₂ (· * ·) ((B.e7 _ _).trans ?_) ?_
    · rw [if_pos (by simp only; omega), mul_one]
      refine congrArg (ar7 m c) (congrArg₂ ix2 (Fin.ext ?_) rfl); simp only; omega
    · refine (congrArg (fun l => sm2 l j) (funext fun j' => lgt_eq B H tt _ j')).trans ((sm2_eq _ (logit_real H _ _ _) j).trans ?_)
      refine congrArg₂ (fun x y => softmax (logit _ _ _ _ _ _ x (tileQ t tt y)) j) (Fin.ext ?_) (Fin.ext ?_) <;> simp only <;> omega
  · refine (congrArg (· * _) (B.e7 r k)).trans ?_
    rw [if_neg (fun h => hk h.symm), mul_zero, zero_mul]

/-- What a grid point writes: the scaled weights of the pair of output heads times the values in its lanes. -/
theorem oG_eq (H : Reals m c) (mp : Fin 6) (r : Fin 128) (l : Fin 256) :
    oG x0 x1 x2 x3 x4 x5 x6 x7 (ix4 0 mp r l)
      = ∑ j : Fin 512, weight (ar0 m c) (ar1 m c) (ar2 m c) (ar3 m c) (ar5 m c) (ar6 m c) (ar7 m c) (bat t)
            ⟨mp.val * 2 + (row t r).val / 4 % 2, by omega⟩ (qry (row t r)) j
          * vA (ar4 m c) (bat t) mp j l := by
  refine Finset.sum_congr rfl fun j _ => congrArg₂ (· * ·) ?_ (B.e2 mp j l)
  refine congrArg₂ (· * ·) ((wts_eq B H _ _ j).trans ?_) ((B.e5 _ _ j).trans ?_)
  · refine Finset.sum_congr rfl fun g _ => congrArg₂ (fun x y => ar7 m c (ix2 g x) * softmax (logit _ _ _ _ _ _ g y) j) (Fin.ext ?_) (Fin.ext ?_)
      <;> simp only [row, tileQ, qry, ix4] <;> omega
  · refine congrArg (fun x => ar5 m c (ix3 (bat t) j x)) (Fin.ext ?_)
    simp only [row, ix4]; omega

end Cert.KernelIdeal.Body

end
-- ==== Proof.Result.lean ====
/-
  The kernel's result at an index: the region's array gathered from its grid points, and the host's slices of it.
-/
module

public import proofs.«01_k».proof.Proof.Equation
public import proofs.«01_k».proof.Proof.Gen.KernelIdeal.Run
public import Idealize.ShloMosaic.Lib.Pipeline.ValueKit
public import Idealize.ShloMosaic.PureOps.Ideal
public import Idealize.ShloMosaic.Lib.Pointwise

@[expose] public section

set_option maxRecDepth 16384

noncomputable section

open Idealize.ShloMosaic Idealize.ShloMosaic.TcCoe Idealize.SL.Sem
open Cert.Maths Cert.Spec

namespace Cert.KernelIdeal.Body

open Cert.KernelIdeal Cert.KernelIdeal.Gen

/-- The host's operations after the region. -/
def tail (r0 : FVec Ideal S4x6x1024x256 .f32) : FVec Ideal S4x512x1152 .bf16 :=
  truncf .bf16 (shapeCast _ (transpose S4x128x4x6x2x96 [0, 2, 3, 1, 4, 5] (concatenate S4x6x128x4x2x96 4 [⟨S4x6x128x4x1x96, (broadcastInDim S4x6x128x4x1x96 ![0, 1, 2, 3, 5] bcast_S4x6x128x4x96_S4x6x128x4x1x96_0_1_2_3_5 (shapeCast _ (extractStridedSlice S4x6x128x1x4x1x96 ![0, 0, 0, 0, 0, 0, 0] (shapeCast _ r0 shapeCasts_S4x6x1024x256_S4x6x128x2x4x2x128) slices_S4x6x128x2x4x2x128_S4x6x128x1x4x1x96_0_0_0_0_0_0_0) shapeCasts_S4x6x128x1x4x1x96_S4x6x128x4x96))⟩, ⟨S4x6x128x4x1x96, (broadcastInDim S4x6x128x4x1x96 ![0, 1, 2, 3, 5] bcast_S4x6x128x4x96_S4x6x128x4x1x96_0_1_2_3_5 (shapeCast _ (extractStridedSlice S4x6x128x1x4x1x96 ![0, 0, 0, 1, 0, 1, 0] (shapeCast _ r0 shapeCasts_S4x6x1024x256_S4x6x128x2x4x2x128) slices_S4x6x128x2x4x2x128_S4x6x128x1x4x1x96_0_0_0_1_0_1_0) shapeCasts_S4x6x128x1x4x1x96_S4x6x128x4x96))⟩] concatenates_S4x6x128x4x1x96_S4x6x128x4x1x96_S4x6x128x4x2x96_d4) transposes_S4x6x128x4x2x96_S4x128x4x6x2x96_0_2_3_1_4_5) shapeCasts_S4x128x4x6x2x96_S4x512x1152) bitsLt_bf16_f32

/-- The host puts every query's heads side by side: where an entry of the result lies in the region's array. -/
theorem tail_apply (r0 : FVec Ideal S4x6x1024x256 .f32) (b : Fin 4) (i : Fin 512) (n : Fin 1152) :
    tail r0 (ix3 b i n) = r0 (ix4 b ⟨n.val / 192, by omega⟩ ⟨i.val / 4 * 8 + n.val / 96 % 2 * 4 + i.val % 4, by omega⟩ ⟨n.val / 96 % 2 * 128 + n.val % 96, by omega⟩) := by
  unfold tail
  pointwise
  split
  · refine congrArg r0 (congrArg₂ (ix4 b _) (Fin.ext ?_) (Fin.ext ?_)) <;> simp only <;> omega
  · refine congrArg r0 (congrArg₂ (ix4 b _) (Fin.ext ?_) (Fin.ext ?_)) <;> simp only <;> omega

variable (m : (ℓ : Loc nD τ sig) → Buf (Elt Ideal) ℓ) (c : Dev nD)

/-- The array the region writes. -/
def regG : S4x6x1024x256.Idx → EReal := fun y =>
  ∑ j : Fin 512, weight (ar0 m c) (ar1 m c) (ar2 m c) (ar3 m c) (ar5 m c) (ar6 m c) (ar7 m c) (y 0)
      ⟨(y 1).val * 2 + (y 2).val / 4 % 2, by have := (y 1).isLt; simp at this; omega⟩ (qry (y 2)) j
    * vA (ar4 m c) (y 0) (y 1) j (y 3)

/-- The region leaves `regG` in its array, as its grid points' blocks tile it. -/
theorem reg_eq (H : Reals m c) : Value.reg_main_v59 m c = regG m c := by
  refine ((dats m 0 c).arrAt_eq_of_covers 8 _ (by decide +kernel) fun t hf y => ?_)
  blk_simp
  rw [after0_8]
  unfold outsAt0
  refine (out_apply _ _ _ _ _ _ _ _ _ _ _ _ _ _ _ _ _ _ _ _ _ _ _ _ _ _ (H.x0 t) (H.x1 t) (H.x3 t) (H.x4 t) (H.x6 t) (H.x7 t) y).trans ?_
  have e : win0_8.index t = ![t.val / 8, 0, t.val % 8, 0] := (idx t).2.2.2.2
  rw [eq_ix4_zero y]
  refine (oG_eq (blocks m c t) H (y 1) (y 2) (y 3)).trans ?_
  have hh : ((cfg0.win 8).blk t).view.emb (ix4 0 (y 1) (y 2) (y 3) : S1x6x128x256.Idx) = (ix4 (bat t) (y 1) (row t (y 2)) (y 3) : S4x6x1024x256.Idx) := by
    unfold bat row
    blk_ext [e]
  exact (congrArg (regG m c) hh).symm

/-- The kernel's result at an index is the attention. -/
theorem res_apply (H : Reals m c) (b : Fin 4) (i : Fin 512) (n : Fin 1152) :
    tail (Value.reg_main_v59 m c) (ix3 b i n)
      = Spec.out (ar0 m c) (ar1 m c) (ar2 m c) (ar3 m c) (ar4 m c) (ar5 m c) (ar6 m c) (ar7 m c) b i n := by
  rw [tail_apply, reg_eq m c H]
  refine Finset.sum_congr rfl fun j _ => (mul_comm _ _).trans (congrArg₂ (· * ·) (vA_at _ _ _ _ _ _ _ ?_ ?_)
    (congrArg₂ (fun x y => weight _ _ _ _ _ _ _ b x y j) (Fin.ext ?_) (Fin.ext ?_))) <;> simp only [qry, ix4] <;> omega

end Cert.KernelIdeal.Body

end
-- ==== Proof.RefRun.lean ====
/-
  The run of the reference: the region's result arrays, the later operations read as one term of them and of the arguments,
  and the statement that every weakly fair execution ends with the result at that term and the arguments unchanged.
-/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v2_0` (window 3's): not opened here. -/
def reg_main_v2_0 (c : Dev nD) : Buf (Elt F) ((c.tc : Thread nD τ).loc main_v2_0) := (Gen.dats m 0 c).arrAt 3 cfg0.N
/-- What the kernel region leaves in its result array `main_v2_1` (window 4's): not opened here. -/
def reg_main_v2_1 (c : Dev nD) : Buf (Elt F) ((c.tc : Thread nD τ).loc main_v2_1) := (Gen.dats m 0 c).arrAt 4 cfg0.N
/-- What the kernel region leaves in its result array `main_v2_2` (window 5's): not opened here. -/
def reg_main_v2_2 (c : Dev nD) : Buf (Elt F) ((c.tc : Thread nD τ).loc main_v2_2) := (Gen.dats m 0 c).arrAt 5 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at argument `main_arg6`: as launched. -/
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
/-- The exit contents at argument `main_arg7`: as launched. -/
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
/-- The exit contents at the region's result array `main_v2_0`. -/
theorem exit_main_v2_0 (c : Dev nD) : exitV m c (Proc.devRef .tc main_v2_0) = reg_main_v2_0 m c :=
  Pipeline.withArrays_arr spec0 Gen.launch0.win.arr_inj c (Gen.V0 m c) _ 3
/-- The exit contents at the region's result array `main_v2_1`. -/
theorem exit_main_v2_1 (c : Dev nD) : exitV m c (Proc.devRef .tc main_v2_1) = reg_main_v2_1 m c :=
  Pipeline.withArrays_arr spec0 Gen.launch0.win.arr_inj c (Gen.V0 m c) _ 4
/-- The exit contents at the region's result array `main_v2_2`. -/
theorem exit_main_v2_2 (c : Dev nD) : exitV m c (Proc.devRef .tc main_v2_2) = reg_main_v2_2 m c :=
  Pipeline.withArrays_arr spec0 Gen.launch0.win.arr_inj c (Gen.V0 m c) _ 5

set_option maxRecDepth 8192 in
/-- `main_v39`'s composed term of the arguments and the region's results (named: it is long). -/
def res_main_v39 (c : Dev nD) : Buf (Elt F) ((c.tc : Thread nD τ).loc main_v39) :=
  truncf .bf16 (shapeCast _ (transpose S4x512x12x96 [0, 3, 1, 2] (Host.dotGeneral dot_S4x512x12x96_S4x12x512x512_S4x12x96x512_1_3_3_2_02_01 none (reg_main_v2_2 m c) (truncf .bf16 (mulf (transpose S4x12x512x512 [1, 0, 2, 3] (Host.dotGeneral dot_S16x12_S4x16x512x512_S12x4x512x512_0_1_1_023_n_n (some .fp32) (m ((c.tc : Thread nD τ).loc main_arg7)) (Host.divf (Host.exp (subf (transpose S4x16x512x512 [1, 0, 2, 3] (Host.dotGeneral dot_S20x16_S4x20x512x512_S16x4x512x512_0_1_1_023_n_n (some .fp32) (m ((c.tc : Thread nD τ).loc main_arg6)) (mulf (mulf (mulf (Host.dotGeneral dot_S4x512x20x96_S4x512x20x96_S4x20x512x512_3_3_1_1_02_02 none (reg_main_v2_0 m c) (reg_main_v2_1 m c)) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (m ((c.tc : Thread nD τ).loc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (m ((c.tc : Thread nD τ).loc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (broadcastInDim S4x16x512x512 ![0, 1, 2, 3] bcast_S4x16x512x1_S4x16x512x512_0_1_2_3 (broadcastInDim S4x16x512x1 ![0, 1, 2] bcast_S4x16x512_S4x16x512x1_0_1_2 (maximumf (broadcastInDim S4x16x512 ![] bcast_S_S4x16x512 (constant S_ .f32 0xFF800000#32)) (Host.reduce FloatOps.maximumf (transpose S4x16x512x512 [1, 0, 2, 3] (Host.dotGeneral dot_S20x16_S4x20x512x512_S16x4x512x512_0_1_1_023_n_n (some .fp32) (m ((c.tc : Thread nD τ).loc main_arg6)) (mulf (mulf (mulf (Host.dotGeneral dot_S4x512x20x96_S4x512x20x96_S4x20x512x512_3_3_1_1_02_02 none (reg_main_v2_0 m c) (reg_main_v2_1 m c)) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (m ((c.tc : Thread nD τ).loc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (m ((c.tc : Thread nD τ).loc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (constant S_ .f32 0xFF800000#32) reducesTo_S4x16x512x512_S4x16x512_d3 h_S_)))))) (broadcastInDim S4x16x512x512 ![0, 1, 2, 3] bcast_S4x16x512x1_S4x16x512x512_0_1_2_3 (broadcastInDim S4x16x512x1 ![0, 1, 2] bcast_S4x16x512_S4x16x512x1_0_1_2 (Host.reduceAdd (Host.exp (subf (transpose S4x16x512x512 [1, 0, 2, 3] (Host.dotGeneral dot_S20x16_S4x20x512x512_S16x4x512x512_0_1_1_023_n_n (some .fp32) (m ((c.tc : Thread nD τ).loc main_arg6)) (mulf (mulf (mulf (Host.dotGeneral dot_S4x512x20x96_S4x512x20x96_S4x20x512x512_3_3_1_1_02_02 none (reg_main_v2_0 m c) (reg_main_v2_1 m c)) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (m ((c.tc : Thread nD τ).loc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (m ((c.tc : Thread nD τ).loc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (broadcastInDim S4x16x512x512 ![0, 1, 2, 3] bcast_S4x16x512x1_S4x16x512x512_0_1_2_3 (broadcastInDim S4x16x512x1 ![0, 1, 2] bcast_S4x16x512_S4x16x512x1_0_1_2 (maximumf (broadcastInDim S4x16x512 ![] bcast_S_S4x16x512 (constant S_ .f32 0xFF800000#32)) (Host.reduce FloatOps.maximumf (transpose S4x16x512x512 [1, 0, 2, 3] (Host.dotGeneral dot_S20x16_S4x20x512x512_S16x4x512x512_0_1_1_023_n_n (some .fp32) (m ((c.tc : Thread nD τ).loc main_arg6)) (mulf (mulf (mulf (Host.dotGeneral dot_S4x512x20x96_S4x512x20x96_S4x20x512x512_3_3_1_1_02_02 none (reg_main_v2_0 m c) (reg_main_v2_1 m c)) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (m ((c.tc : Thread nD τ).loc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (m ((c.tc : Thread nD τ).loc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (constant S_ .f32 0xFF800000#32) reducesTo_S4x16x512x512_S4x16x512_d3 h_S_)))))) (constant S_ .f32 0x00000000#32) reducesTo_S4x16x512x512_S4x16x512_d3 h_S_))))) transposes_S12x4x512x512_S4x12x512x512_1_0_2_3) (broadcastInDim S4x12x512x512 ![0, 1, 2, 3] bcast_S4x12x1x512_S4x12x512x512_0_1_2_3 (broadcastInDim S4x12x1x512 ![0, 1, 3] bcast_S4x12x512_S4x12x1x512_0_1_3 (transpose S4x12x512 [0, 2, 1] (m ((c.tc : Thread nD τ).loc main_arg5)) transposes_S4x512x12_S4x12x512_0_2_1)))) bitsLt_bf16_f32)) transposes_S4x12x96x512_S4x512x12x96_0_3_1_2) shapeCasts_S4x512x12x96_S4x512x1152) bitsLt_bf16_f32

/-- `res_main_v39` by its position among the values @main returns, 0 counting from 0: the name for hand proofs to cite, since
    a re-print renumbers `main_v39`. An abbreviation: it unfolds to the `res_main_v39` that `run` states. -/
abbrev res_out0 (c : Dev nD) : Buf (Elt F) ((c.tc : Thread nD τ).loc main_v39) := res_main_v39 m c

set_option maxRecDepth 8192 in
set_option maxHeartbeats 2000000 in
/-- The later operations from any contents `V0`, read at result `main_v39`. -/
theorem tail_main_v39 (V0 : Valuation τ sig (Elt F)) :
    after (List.flatten [Gen.hostOps1]) V0 (Proc.devRef .tc main_v39) = truncf .bf16 (shapeCast _ (transpose S4x512x12x96 [0, 3, 1, 2] (Host.dotGeneral dot_S4x512x12x96_S4x12x512x512_S4x12x96x512_1_3_3_2_02_01 none (V0 (Proc.devRef .tc main_v2_2)) (truncf .bf16 (mulf (transpose S4x12x512x512 [1, 0, 2, 3] (Host.dotGeneral dot_S16x12_S4x16x512x512_S12x4x512x512_0_1_1_023_n_n (some .fp32) (V0 (Proc.devRef .tc main_arg7)) (Host.divf (Host.exp (subf (transpose S4x16x512x512 [1, 0, 2, 3] (Host.dotGeneral dot_S20x16_S4x20x512x512_S16x4x512x512_0_1_1_023_n_n (some .fp32) (V0 (Proc.devRef .tc main_arg6)) (mulf (mulf (mulf (Host.dotGeneral dot_S4x512x20x96_S4x512x20x96_S4x20x512x512_3_3_1_1_02_02 none (V0 (Proc.devRef .tc main_v2_0)) (V0 (Proc.devRef .tc main_v2_1))) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (V0 (Proc.devRef .tc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (V0 (Proc.devRef .tc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (broadcastInDim S4x16x512x512 ![0, 1, 2, 3] bcast_S4x16x512x1_S4x16x512x512_0_1_2_3 (broadcastInDim S4x16x512x1 ![0, 1, 2] bcast_S4x16x512_S4x16x512x1_0_1_2 (maximumf (broadcastInDim S4x16x512 ![] bcast_S_S4x16x512 (constant S_ .f32 0xFF800000#32)) (Host.reduce FloatOps.maximumf (transpose S4x16x512x512 [1, 0, 2, 3] (Host.dotGeneral dot_S20x16_S4x20x512x512_S16x4x512x512_0_1_1_023_n_n (some .fp32) (V0 (Proc.devRef .tc main_arg6)) (mulf (mulf (mulf (Host.dotGeneral dot_S4x512x20x96_S4x512x20x96_S4x20x512x512_3_3_1_1_02_02 none (V0 (Proc.devRef .tc main_v2_0)) (V0 (Proc.devRef .tc main_v2_1))) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (V0 (Proc.devRef .tc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (V0 (Proc.devRef .tc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (constant S_ .f32 0xFF800000#32) reducesTo_S4x16x512x512_S4x16x512_d3 h_S_)))))) (broadcastInDim S4x16x512x512 ![0, 1, 2, 3] bcast_S4x16x512x1_S4x16x512x512_0_1_2_3 (broadcastInDim S4x16x512x1 ![0, 1, 2] bcast_S4x16x512_S4x16x512x1_0_1_2 (Host.reduceAdd (Host.exp (subf (transpose S4x16x512x512 [1, 0, 2, 3] (Host.dotGeneral dot_S20x16_S4x20x512x512_S16x4x512x512_0_1_1_023_n_n (some .fp32) (V0 (Proc.devRef .tc main_arg6)) (mulf (mulf (mulf (Host.dotGeneral dot_S4x512x20x96_S4x512x20x96_S4x20x512x512_3_3_1_1_02_02 none (V0 (Proc.devRef .tc main_v2_0)) (V0 (Proc.devRef .tc main_v2_1))) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (V0 (Proc.devRef .tc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (V0 (Proc.devRef .tc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (broadcastInDim S4x16x512x512 ![0, 1, 2, 3] bcast_S4x16x512x1_S4x16x512x512_0_1_2_3 (broadcastInDim S4x16x512x1 ![0, 1, 2] bcast_S4x16x512_S4x16x512x1_0_1_2 (maximumf (broadcastInDim S4x16x512 ![] bcast_S_S4x16x512 (constant S_ .f32 0xFF800000#32)) (Host.reduce FloatOps.maximumf (transpose S4x16x512x512 [1, 0, 2, 3] (Host.dotGeneral dot_S20x16_S4x20x512x512_S16x4x512x512_0_1_1_023_n_n (some .fp32) (V0 (Proc.devRef .tc main_arg6)) (mulf (mulf (mulf (Host.dotGeneral dot_S4x512x20x96_S4x512x20x96_S4x20x512x512_3_3_1_1_02_02 none (V0 (Proc.devRef .tc main_v2_0)) (V0 (Proc.devRef .tc main_v2_1))) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] (V0 (Proc.devRef .tc main_arg1)) transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] (V0 (Proc.devRef .tc main_arg3)) transposes_S4x512x20_S4x20x512_0_2_1)))) (broadcastInDim S4x20x512x512 ![] bcast_S_S4x20x512x512 (Host.divf (constant S_ .f32 0x3F800000#32) (Host.sqrt (constant S_ .f32 0x42C00000#32)))))) transposes_S16x4x512x512_S4x16x512x512_1_0_2_3) (constant S_ .f32 0xFF800000#32) reducesTo_S4x16x512x512_S4x16x512_d3 h_S_)))))) (constant S_ .f32 0x00000000#32) reducesTo_S4x16x512x512_S4x16x512_d3 h_S_))))) transposes_S12x4x512x512_S4x12x512x512_1_0_2_3) (broadcastInDim S4x12x512x512 ![0, 1, 2, 3] bcast_S4x12x1x512_S4x12x512x512_0_1_2_3 (broadcastInDim S4x12x1x512 ![0, 1, 3] bcast_S4x12x512_S4x12x1x512_0_1_3 (transpose S4x12x512 [0, 2, 1] (V0 (Proc.devRef .tc main_arg5)) transposes_S4x512x12_S4x12x512_0_2_1)))) bitsLt_bf16_f32)) transposes_S4x12x96x512_S4x512x12x96_0_3_1_2) shapeCasts_S4x512x12x96_S4x512x1152) bitsLt_bf16_f32 := by
  simp only [Gen.hostOps1, List.flatten_cons, List.flatten_nil, List.append_nil, List.cons_append, List.nil_append]
  after_results_simp <;> rfl
/-- Result `main_v39` after the later operations from the region's exit contents. -/
theorem fin_main_v39 (c : Dev nD) :
    Pipeline.afterTail₀ cfgs (Gen.dats m) 0 (Gen.V0 m) [Gen.hostOps1] c main_v39 = res_main_v39 m c :=
  by unfold res_main_v39; exact (tail_main_v39 (exitV m c)).trans (by rw [exit_main_arg1, exit_main_arg3, exit_main_arg5, exit_main_arg6, exit_main_arg7, exit_main_v2_0, exit_main_v2_1, exit_main_v2_2]; first | done | rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v39) = res_main_v39 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v39 (Pipeline.mem_restRefs_of main_v39 (by decide) (by decide))).trans (fin_main_v39 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).1 2).trans (((Gen.dats m 0 c).arrAt_in 2 rfl _).trans ((Gen.A_eq m c 2).trans (Gen.V_main_arg4 m c))),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c)⟩) (Gen.run_main m ρ)

end Cert.ReferenceIdeal.Value

end
-- ==== Proof.Reference.lean ====
/-
  The reference's result at an index: the attention written with its sums, maxima and exponentials.
-/
module

public import proofs.«01_k».proof.Proof.RefRun
public import proofs.«01_k».proof.Proof.Spec
public import Idealize.ShloMosaic.Lib.Pipeline.ValueKit
public import Idealize.ShloMosaic.Lib.StableHlo.ReadAt
public import Idealize.ShloMosaic.PureOps.Ideal
public import Idealize.ShloMosaic.Lib.Pointwise

@[expose] public section

set_option maxRecDepth 16384

noncomputable section

open Idealize.ShloMosaic Idealize.ShloMosaic.TcCoe Idealize.SL.Sem
open Cert.Maths

namespace Cert.ReferenceIdeal.Ref

open Cert.ReferenceIdeal Cert.ReferenceIdeal.Gen

/-- The scaled scores. -/
def scV (q k : FVec Ideal S4x512x20x96 .f32) (qs ks : FVec Ideal S4x512x20 .f32) : FVec Ideal S4x20x512x512 .f32 :=
  mulf (mulf (mulf (Host.dotGeneral dot_S4x512x20x96_S4x512x20x96_S4x20x512x512_3_3_1_1_02_02 none q k) (broadcastInDim S4x20x512x512 ![0, 1, 2, 3] bcast_S4x20x512x1_S4x20x512x512_0_1_2_3 (broadcastInDim S4x20x512x1 ![0, 1, 2] bcast_S4x20x512_S4x20x512x1_0_1_2 (transpose S4x20x512 [0, 2, 1] qs transposes_S4x512x20_S4x20x512_0_2_1)))) (broadcastInDim S4x20x512x512 ![0, 1, 2, 3] bcast_S4x20x1x512_S4x20x512x512_0_1_2_3 (broadcastInDim S4x20x1x512 ![0, 1, 3] bcast_S4x20x512_S4x20x1x512_0_1_3 (transpose S4x20x512 [0, 2, 1] ks transposes_S4x512x20_S4x20x512_0_2_1)))) (broadcastInDim S4x20x512x512 ![] bcast_S_S4x20x512x512 (Host.divf (constant S_ .f32 0x3F800000#32) (Host.sqrt (constant S_ .f32 0x42C00000#32))))

/-- The mixed logits. -/
def lgV (w : FVec Ideal S20x16 .f32) (s : FVec Ideal S4x20x512x512 .f32) : FVec Ideal S4x16x512x512 .f32 :=
  transpose S4x16x512x512 [1, 0, 2, 3] (Host.dotGeneral dot_S20x16_S4x20x512x512_S16x4x512x512_0_1_1_023_n_n (some .fp32) w s) transposes_S16x4x512x512_S4x16x512x512_1_0_2_3

/-- The greatest logit of each row. -/
def mxV (l : FVec Ideal S4x16x512x512 .f32) : FVec Ideal S4x16x512 .f32 :=
  Host.reduce FloatOps.maximumf l (constant S_ .f32 0xFF800000#32) reducesTo_S4x16x512x512_S4x16x512_d3 h_S_

/-- The exponentials of the logits less their greatest. -/
def exV (l : FVec Ideal S4x16x512x512 .f32) (mx : FVec Ideal S4x16x512 .f32) : FVec Ideal S4x16x512x512 .f32 :=
  Host.exp (subf l (broadcastInDim S4x16x512x512 ![0, 1, 2, 3] bcast_S4x16x512x1_S4x16x512x512_0_1_2_3 (broadcastInDim S4x16x512x1 ![0, 1, 2] bcast_S4x16x512_S4x16x512x1_0_1_2 (maximumf (broadcastInDim S4x16x512 ![] bcast_S_S4x16x512 (constant S_ .f32 0xFF800000#32)) mx))))

/-- The attention weights of the exponentials. -/
def atV (e : FVec Ideal S4x16x512x512 .f32) : FVec Ideal S4x16x512x512 .f32 :=
  Host.divf e (broadcastInDim S4x16x512x512 ![0, 1, 2, 3] bcast_S4x16x512x1_S4x16x512x512_0_1_2_3 (broadcastInDim S4x16x512x1 ![0, 1, 2] bcast_S4x16x512_S4x16x512x1_0_1_2 (Host.reduceAdd e (constant S_ .f32 0x00000000#32) reducesTo_S4x16x512x512_S4x16x512_d3 h_S_)))

/-- The result of the attention weights. -/
def outV (w : FVec Ideal S16x12 .f32) (v : FVec Ideal S4x512x12x96 .bf16) (vs : FVec Ideal S4x512x12 .f32) (a : FVec Ideal S4x16x512x512 .f32) :
    FVec Ideal S4x512x1152 .bf16 :=
  truncf .bf16 (shapeCast _ (transpose S4x512x12x96 [0, 3, 1, 2] (Host.dotGeneral dot_S4x512x12x96_S4x12x512x512_S4x12x96x512_1_3_3_2_02_01 none v (truncf .bf16 (mulf (transpose S4x12x512x512 [1, 0, 2, 3] (Host.dotGeneral dot_S16x12_S4x16x512x512_S12x4x512x512_0_1_1_023_n_n (some .fp32) w a) transposes_S12x4x512x512_S4x12x512x512_1_0_2_3) (broadcastInDim S4x12x512x512 ![0, 1, 2, 3] bcast_S4x12x1x512_S4x12x512x512_0_1_2_3 (broadcastInDim S4x12x1x512 ![0, 1, 3] bcast_S4x12x512_S4x12x1x512_0_1_3 (transpose S4x12x512 [0, 2, 1] vs transposes_S4x512x12_S4x12x512_0_2_1)))) bitsLt_bf16_f32)) transposes_S4x12x96x512_S4x512x12x96_0_3_1_2) shapeCasts_S4x512x12x96_S4x512x1152) bitsLt_bf16_f32

theorem ofBits_neg_inf : Ideal.ofBits FTy.f32 4286578688#32 = (⊥ : EReal) := by simp [Ideal.ofBits, Ideal.ieee]

/-- The constant of the reference: one over the square root of 96. -/
theorem scale_eq : Ideal.div 1 (Ideal.sqrt (Ideal.ofBits FTy.f32 1119879168#32)) = (((√96)⁻¹ : ℝ) : EReal) := by
  have h : Ideal.ofBits FTy.f32 1119879168#32 = ((96 : ℝ) : EReal) := by
    simp [Ideal.ofBits, Ideal.ieee]
    norm_cast
    norm_num
  rw [h, Ideal.sqrt_coe, if_neg (by norm_num), Ideal.div_coe (by positivity), one_mul, one_div]

theorem scV_apply (q k : FVec Ideal S4x512x20x96 .f32) (qs ks : FVec Ideal S4x512x20 .f32) (b : Fin 4) (h : Fin 20) (i j : Fin 512) :
    scV q k qs ks (ix4 b h i j) = (∑ d : Fin 96, q (ix4 b i h d) * k (ix4 b j h d)) * qs (ix3 b i h) * ks (ix3 b j h) * (((√96)⁻¹ : ℝ) : EReal) := by
  pointwise [scV]
  rw [scale_eq]

theorem lgV_apply (w : FVec Ideal S20x16 .f32) (s : FVec Ideal S4x20x512x512 .f32) (b : Fin 4) (g : Fin 16) (i j : Fin 512) :
    lgV w s (ix4 b g i j) = ∑ h : Fin 20, w (ix2 h g) * s (ix4 b h i j) := by
  pointwise [lgV]

theorem mxV_apply (l : FVec Ideal S4x16x512x512 .f32) (b : Fin 4) (g : Fin 16) (i : Fin 512) :
    mxV l (ix3 b g i) = Finset.univ.fold max (⊥ : EReal) (fun k : Fin 512 => l (ix4 b g i k)) := by
  simp only [mxV, pointwise]
  exact congrArg (fun z => Finset.fold max z _ _) ofBits_neg_inf

theorem exV_apply (l : FVec Ideal S4x16x512x512 .f32) (mx : FVec Ideal S4x16x512 .f32) (b : Fin 4) (g : Fin 16) (i j : Fin 512) :
    exV l mx (ix4 b g i j) = Ideal.exp (l (ix4 b g i j) - mx (ix3 b g i)) := by
  pointwise [exV]
  rw [ofBits_neg_inf, max_eq_right bot_le]

theorem atV_apply (e : FVec Ideal S4x16x512x512 .f32) (b : Fin 4) (g : Fin 16) (i j : Fin 512) :
    atV e (ix4 b g i j) = Ideal.div (e (ix4 b g i j)) (∑ k : Fin 512, e (ix4 b g i k)) := by
  pointwise [atV]

theorem outV_apply (w : FVec Ideal S16x12 .f32) (v : FVec Ideal S4x512x12x96 .bf16) (vs : FVec Ideal S4x512x12 .f32)
    (a : FVec Ideal S4x16x512x512 .f32) (b : Fin 4) (i : Fin 512) (n : Fin 1152) :
    outV w v vs a (ix3 b i n) = ∑ j : Fin 512, v (ix4 b j ⟨n / 96, by omega⟩ ⟨n % 96, by omega⟩)
      * ((∑ g : Fin 16, w (ix2 g ⟨n / 96, by omega⟩) * a (ix4 b g i j)) * vs (ix3 b j ⟨n / 96, by omega⟩)) := by
  pointwise [outV]

variable (m : (ℓ : Loc nD τ sig) → Buf (Elt Ideal) ℓ) (c : Dev nD)

/-- The logits of the reference. -/
def lg : FVec Ideal S4x16x512x512 .f32 :=
  lgV (m ((c.tc : Thread nD τ).loc main_arg6)) (scV (Value.reg_main_v2_0 m c) (Value.reg_main_v2_1 m c)
    (m ((c.tc : Thread nD τ).loc main_arg1)) (m ((c.tc : Thread nD τ).loc main_arg3)))

theorem res_eq : Value.res_main_v39 m c = outV (m ((c.tc : Thread nD τ).loc main_arg7)) (Value.reg_main_v2_2 m c) (m ((c.tc : Thread nD τ).loc main_arg5))
    (atV (exV (lg m c) (mxV (lg m c)))) := rfl

/-- The region runs once, on its arrays whole. -/
theorem idx : ∀ t : Fin cfg0.N, (win0_0.index t = ![0, 0, 0, 0] ∧ win0_1.index t = ![0, 0, 0, 0] ∧ win0_2.index t = ![0, 0, 0, 0])
    ∧ win0_3.index t = ![0, 0, 0, 0] ∧ win0_4.index t = ![0, 0, 0, 0] ∧ win0_5.index t = ![0, 0, 0, 0] :=
  (by decide +kernel : ∀ t : Fin grid0.N, _)

/-- The queries' bytes read as floats, as the region finds them. -/
theorem iblk0 (t : Fin cfg0.N) (y : S4x512x20x96.Idx) : iblk m c 0 t y = Ideal.ofBits .fp8e4m3 (m ((c.tc : Thread nD τ).loc main_arg0) y) := by
  unfold iblk V V0
  blk_simp
  after_reads_at
  congr 2
  blk_ext [idx t]

/-- The keys' bytes read as floats, as the region finds them. -/
theorem iblk1 (t : Fin cfg0.N) (y : S4x512x20x96.Idx) : iblk m c 1 t y = Ideal.ofBits .fp8e4m3 (m ((c.tc : Thread nD τ).loc main_arg2) y) := by
  unfold iblk V V0
  blk_simp
  after_reads_at
  congr 2
  blk_ext [idx t]

/-- The values as the region finds them. -/
theorem iblk2 (t : Fin cfg0.N) (y : S4x512x12x96.Idx) : iblk m c 2 t y = m ((c.tc : Thread nD τ).loc main_arg4) y := by
  unfold iblk V V0
  blk_simp
  after_reads_at
  congr 2
  blk_ext [idx t]

theorem pay1 (x : Vec Ideal S4x512x20x96 .fp8e4m3) : k0_pay1 x = x := shapeCast_self x _
theorem pay2 (x : Vec Ideal S4x512x20x96 .fp8e4m3) : k0_pay2 x = x := shapeCast_self x _
theorem pay3 (x : Vec Ideal S4x512x12x96 .fp8e4m3) : k0_pay3 x = x := rfl

/-- The widened queries. -/
theorem q_eq : Value.reg_main_v2_0 m c = fun y => Ideal.ofBits .fp8e4m3 (m ((c.tc : Thread nD τ).loc main_arg0) y) := by
  refine ((dats m 0 c).arrAt_eq_of_covers 3 _ (by decide +kernel) fun t hf y => ?_)
  blk_simp
  rw [after0_3]
  frame_out
  refine (congrFun (pay1 _) y).trans ((iblk0 m c t y).trans ?_)
  congr 2
  blk_ext [idx t]

/-- The widened keys. -/
theorem k_eq : Value.reg_main_v2_1 m c = fun y => Ideal.ofBits .fp8e4m3 (m ((c.tc : Thread nD τ).loc main_arg2) y) := by
  refine ((dats m 0 c).arrAt_eq_of_covers 4 _ (by decide +kernel) fun t hf y => ?_)
  blk_simp
  rw [after0_4]
  frame_out
  refine (congrFun (pay2 _) y).trans ((iblk1 m c t y).trans ?_)
  congr 2
  blk_ext [idx t]

/-- The widened values. -/
theorem v_eq : Value.reg_main_v2_2 m c = fun y => m ((c.tc : Thread nD τ).loc main_arg4) y := by
  refine ((dats m 0 c).arrAt_eq_of_covers 5 _ (by decide +kernel) fun t hf y => ?_)
  blk_simp
  rw [after0_5]
  frame_out
  refine (congrFun (pay3 _) y).trans ((iblk2 m c t y).trans ?_)
  congr 1
  blk_ext [idx t]

/-- The reference's result at an index. -/
theorem res_apply (b : Fin 4) (i : Fin 512) (n : Fin 1152) :
    Value.res_main_v39 m c (ix3 b i n) = Spec.out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) b i n := by
  have hlg : ∀ (g : Fin 16) (j : Fin 512), lg m c (ix4 b g i j) = Spec.logit (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg6)) b g i j := by
    intro g j
    unfold lg
    refine (lgV_apply _ _ b g i j).trans (Finset.sum_congr rfl fun h _ => congrArg₂ (· * ·) rfl ?_)
    rw [q_eq, k_eq]
    exact scV_apply _ _ _ _ b h i j
  have hex : ∀ (g : Fin 16) (j : Fin 512), exV (lg m c) (mxV (lg m c)) (ix4 b g i j)
      = Ideal.exp (lg m c (ix4 b g i j) - Finset.univ.fold max (⊥ : EReal) (fun k : Fin 512 => lg m c (ix4 b g i k))) := by
    intro g j; rw [exV_apply, mxV_apply]
  rw [res_eq]
  refine (outV_apply _ _ _ _ b i n).trans (Finset.sum_congr rfl fun j _ => congrArg₂ (· * ·) (congrFun (v_eq m c) _)
    (congrArg₂ (· * ·) (Finset.sum_congr rfl fun g _ => congrArg₂ (· * ·) rfl ?_) rfl))
  refine (atV_apply _ b g i j).trans ?_
  simp only [hex, hlg]
  rfl

end Cert.ReferenceIdeal.Ref

end
-- ==== Proof.Precondition.lean ====
/-
  What the precondition says: every query and key code, every query and key scale and every mixing weight is a real number.
-/
module

public import proofs.«01_k».proof.Proof.Gen.Pre_finite
public import proofs.«01_k».proof.Proof.Spec
public import Idealize.ShloMosaic.Lib.ReduceAll
public import Idealize.ShloMosaic.Lib.WordCmp
public import Idealize.ShloMosaic.Lib.Pointwise
public import Idealize.ShloMosaic.PureOps.Ideal

@[expose] public section

set_option maxRecDepth 16384

noncomputable section

open Idealize.ShloMosaic
open Cert.Maths Cert.Spec

namespace Cert.Pre_finite.Meaning

open Cert.Pre_finite Cert.Pre_finite.Gen

instance : Subsingleton S_.Idx := ⟨fun a b => funext fun i => i.elim0⟩

/-- Two flags are both one when their conjunction is. -/
theorem and_one {x y : BitVec 1} (h : IntOp.andi x y = 1#1) : x = 1#1 ∧ y = 1#1 := by
  revert x y; decide

/-- Every byte whose exponent and fraction are not all ones codes a real number. -/
theorem code_real (b : BitVec 8) (h : ¬ ((b.extractLsb' 3 4).toNat = 15 ∧ (b.extractLsb' 0 3).toNat = 7)) : IsReal (code b) := by
  show IsReal (Ideal.e4m3fn b)
  unfold Ideal.e4m3fn
  simp only
  rw [if_neg h]
  split
  · exact ⟨_, rfl⟩
  · exact ⟨_, rfl⟩

/-- A byte that differs from 127 in its low seven bits has an exponent or fraction that is not all ones. -/
theorem byte_ok (b : BitVec 8) (h : IntOp.cmpi .ne (IntOp.andi (b.setWidth 32) 127#32) 127#32 = 1#1) :
    ¬ ((b.extractLsb' 3 4).toNat = 15 ∧ (b.extractLsb' 0 3).toNat = 7) := by
  revert b; decide +kernel

/-- A number between minus and plus infinity is real. -/
theorem real_of_between (x : EReal) (h1 : ⊥ < x) (h2 : x < ⊤) : IsReal x :=
  ⟨x.toReal, (EReal.coe_toReal h2.ne h1.ne').symm⟩

theorem inf_eq : Ideal.ofBits FTy.f32 0x7F800000#32 = (⊤ : EReal) := by simp [Ideal.ofBits, Ideal.ieee]

theorem bound_real {s : Shape} (x : FVec Ideal s .f32) (hb : S_.BroadcastsInDim s (![] : Fin 0 → Fin s.rank)) (i : s.Idx)
    (h : andi (cmpf .olt (broadcastInDim s ![] hb (Host.negf (constant (F := Ideal) S_ .f32 0x7F800000#32))) x)
      (cmpf .olt x (broadcastInDim s ![] hb (constant (F := Ideal) S_ .f32 0x7F800000#32))) i = 1#1) : IsReal (x i) := by
  obtain ⟨h1, h2⟩ := and_one h
  have g1 : Ideal.cmp .olt (-(Ideal.ofBits FTy.f32 0x7F800000#32)) (x i) = 1 := h1
  have g2 : Ideal.cmp .olt (x i) (Ideal.ofBits FTy.f32 0x7F800000#32) = 1 := h2
  rw [inf_eq, Ideal.cmp_olt_eq_one] at g1 g2
  exact real_of_between _ g1 g2

theorem code_of {s : Shape} (x : IVec s 8) (h8 : 8 < 32) (hb : S_.BroadcastsInDim s (![] : Fin 0 → Fin s.rank)) (i : s.Idx)
    (h : cmpi .ne (andi (extui 32 x h8) (broadcastInDim s ![] hb (constantI S_ 32 127#32))) (broadcastInDim s ![] hb (constantI S_ 32 127#32)) i = 1#1) :
    IsReal (code (x i)) := code_real _ (byte_ok _ h)

/-- The precondition, at every entry. -/
theorem reals (a0 : IVec S4x512x20x96 8) (a1 : FVec Ideal S4x512x20 .f32) (a2 : IVec S4x512x20x96 8) (a3 : FVec Ideal S4x512x20 .f32)
    (a4 : FVec Ideal S4x512x12x96 .fp8e4m3) (a5 : FVec Ideal S4x512x12 .f32) (a6 : FVec Ideal S20x16 .f32) (a7 : FVec Ideal S16x12 .f32)
    (j : S_.Idx) (h : fn (F := Ideal) a0 a1 a2 a3 a4 a5 a6 a7 j = 1#1) :
    (∀ i, IsReal (code (a0 i))) ∧ (∀ i, IsReal (a1 i)) ∧ (∀ i, IsReal (code (a2 i))) ∧ (∀ i, IsReal (a3 i)) ∧ (∀ i, IsReal (a6 i)) ∧ ∀ i, IsReal (a7 i) := by
  obtain ⟨h, h7⟩ := and_one h
  obtain ⟨h, h6⟩ := and_one h
  obtain ⟨h, h3⟩ := and_one h
  obtain ⟨h, h1⟩ := and_one h
  obtain ⟨h0, h2⟩ := and_one h
  exact ⟨fun i => code_of a0 _ _ i (Host.reduce_andi_all _ _ _ _ j h0 i), fun i => bound_real a1 _ i (Host.reduce_andi_all _ _ _ _ j h1 i),
    fun i => code_of a2 _ _ i (Host.reduce_andi_all _ _ _ _ j h2 i), fun i => bound_real a3 _ i (Host.reduce_andi_all _ _ _ _ j h3 i),
    fun i => bound_real a6 _ i (Host.reduce_andi_all _ _ _ _ j h6 i), fun i => bound_real a7 _ i (Host.reduce_andi_all _ _ _ _ j h7 i)⟩

end Cert.Pre_finite.Meaning

end
-- ==== Proof.Algebraic.lean ====
/-
  The kernel and the reference compute the same array over the extended reals.
-/
module

public import proofs.«01_k».proof.Defs
public import proofs.«01_k».proof.Proof.Result
public import proofs.«01_k».proof.Proof.Reference
public import proofs.«01_k».proof.Proof.Precondition
public import proofs.«01_k».proof.Proof.Gen.Pre_finite

@[expose] public section

set_option maxRecDepth 16384

noncomputable section

namespace Cert.Proof

open Idealize.ShloMosaic Idealize.ShloMosaic.TcCoe Idealize.SL.Sem

/-- On every device the precondition makes the entries it names real numbers. -/
theorem reals (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Cert.KernelIdeal.Body.Reals m c := by
  obtain ⟨h0, h1, h2, h3, h6, h7⟩ := Cert.Pre_finite.Meaning.reals _ _ _ _ _ _ _ _ ix0 (congrFun (h c) ix0)
  exact ⟨h0, h1, h2, h3, h6, h7⟩

/-- From arguments the precondition allows, the kernel's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (H : Cert.KernelIdeal.Body.Reals m c)
    (e0 : m' ((c.tc : Thread Cert.ReferenceIdeal.nD Cert.ReferenceIdeal.τ).loc Cert.ReferenceIdeal.main_arg0) = Cert.KernelIdeal.Body.ar0 m c)
    (e1 : m' ((c.tc : Thread Cert.ReferenceIdeal.nD Cert.ReferenceIdeal.τ).loc Cert.ReferenceIdeal.main_arg1) = Cert.KernelIdeal.Body.ar1 m c)
    (e2 : m' ((c.tc : Thread Cert.ReferenceIdeal.nD Cert.ReferenceIdeal.τ).loc Cert.ReferenceIdeal.main_arg2) = Cert.KernelIdeal.Body.ar2 m c)
    (e3 : m' ((c.tc : Thread Cert.ReferenceIdeal.nD Cert.ReferenceIdeal.τ).loc Cert.ReferenceIdeal.main_arg3) = Cert.KernelIdeal.Body.ar3 m c)
    (e4 : m' ((c.tc : Thread Cert.ReferenceIdeal.nD Cert.ReferenceIdeal.τ).loc Cert.ReferenceIdeal.main_arg4) = Cert.KernelIdeal.Body.ar4 m c)
    (e5 : m' ((c.tc : Thread Cert.ReferenceIdeal.nD Cert.ReferenceIdeal.τ).loc Cert.ReferenceIdeal.main_arg5) = Cert.KernelIdeal.Body.ar5 m c)
    (e6 : m' ((c.tc : Thread Cert.ReferenceIdeal.nD Cert.ReferenceIdeal.τ).loc Cert.ReferenceIdeal.main_arg6) = Cert.KernelIdeal.Body.ar6 m c)
    (e7 : m' ((c.tc : Thread Cert.ReferenceIdeal.nD Cert.ReferenceIdeal.τ).loc Cert.ReferenceIdeal.main_arg7) = Cert.KernelIdeal.Body.ar7 m c) :
    (Cert.ReferenceIdeal.Value.res_main_v39 m' c : FVec Ideal Cert.KernelIdeal.S4x512x1152 .bf16)
      = Cert.KernelIdeal.Body.tail (Cert.KernelIdeal.Value.reg_main_v59 m c) := by
  funext i
  rw [eq_ix3 i]
  refine (Cert.ReferenceIdeal.Ref.res_apply m' c (i 0) (i 1) (i 2)).trans ?_
  rw [e0, e1, e2, e3, e4, e5, e6, e7]
  exact (Cert.KernelIdeal.Body.res_apply m c H (i 0) (i 1) (i 2)).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Body.tail (Cert.KernelIdeal.Value.reg_main_v59 m c), Cert.KernelIdeal.Value.run (F := Ideal) m g, ?_⟩
  refine (θ_run (Cert.ReferenceIdeal.defs (F := Ideal)) _ _).mono (fun r h c => ?_) (Cert.ReferenceIdeal.Value.run (F := Ideal) m' g')
  obtain ⟨hv, hrest⟩ := h c
  obtain ⟨e0, e1, e2, e3, e4, e5, e6, e7⟩ := hargs c
  exact ⟨hv.trans (result_eq m m' c (reals m hpre c) e0 e1 e2 e3 e4 e5 e6 e7), hrest⟩

end Cert.Proof

end
-- ==== Proof.lean ====
/-
  The claim about the two programs: the frames, the rewrites the idealized kernel was read with, and the equality of
  the results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Each rewrite of the idealization is its rule's own statement. -/
theorem preserves : Cert.preserves_Kernel_KernelIdeal :=
  ⟨IdealRules.bf16_pack.statement _, IdealRules.bf16_pack.statement _,
    IdealRules.named_const.statement Cert.KernelIdeal.κ "score_scale" .f32 0x3E16C740#32 _ rfl,
    IdealRules.bf16_pack.statement _, IdealRules.bf16_pack.statement _⟩

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic⟩

end Cert.Proof

end
